-- ==== Defs.lean ====
def Pre_Kernel [hPre_ids_in_table : Cert.Pre_ids_in_table.Facts] (m : (ℓ : Loc Cert.Kernel.nD Cert.Kernel.τ Cert.Kernel.sig) → Buf (Elt Bits) ℓ) : Prop :=
  ∀ c : Dev Cert.Kernel.nD,
    (Cert.Pre_ids_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_KernelIdeal_ids_in_table_alpha_time_finite [hPre_ids_in_table_alpha_time_finite : Cert.Pre_ids_in_table_alpha_time_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table_alpha_time_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table_alpha_time_finite [hPre_ids_in_table_alpha_time_finite : Cert.Pre_ids_in_table_alpha_time_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table_alpha_time_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Kernel [hKernel : Cert.Kernel.Facts] [hPre_ids_in_table : Cert.Pre_ids_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_ids_in_table_alpha_time_finite [hKernelIdeal : Cert.KernelIdeal.Facts] [hPre_ids_in_table_alpha_time_finite : Cert.Pre_ids_in_table_alpha_time_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table_alpha_time_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_ids_in_table_alpha_time_finite [hReferenceIdeal : Cert.ReferenceIdeal.Facts] [hPre_ids_in_table_alpha_time_finite : Cert.Pre_ids_in_table_alpha_time_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table_alpha_time_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal_pre_ids_in_table_alpha_time_finite [hKernelIdeal : Cert.KernelIdeal.Facts] [hReferenceIdeal : Cert.ReferenceIdeal.Facts] [hPre_ids_in_table_alpha_time_finite : Cert.Pre_ids_in_table_alpha_time_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table_alpha_time_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_ids_in_table : Cert.Pre_ids_in_table.Facts) (hPre_ids_in_table_alpha_time_finite : Cert.Pre_ids_in_table_alpha_time_finite.Facts),
    quiescent_Kernel (hKernel := hKernel) (hPre_ids_in_table := hPre_ids_in_table)
    ∧ quiescent_KernelIdeal (hKernelIdeal := hKernelIdeal) (hPre_ids_in_table := hPre_ids_in_table)
    ∧ quiescent_KernelIdeal_pre_ids_in_table_alpha_time_finite (hKernelIdeal := hKernelIdeal) (hPre_ids_in_table_alpha_time_finite := hPre_ids_in_table_alpha_time_finite)
    ∧ quiescent_ReferenceIdeal (hReferenceIdeal := hReferenceIdeal)
    ∧ quiescent_ReferenceIdeal_pre_ids_in_table_alpha_time_finite (hReferenceIdeal := hReferenceIdeal) (hPre_ids_in_table_alpha_time_finite := hPre_ids_in_table_alpha_time_finite)
    ∧ preserves_Kernel_KernelIdeal
    ∧ algebraic_KernelIdeal_ReferenceIdeal_pre_ids_in_table_alpha_time_finite (hKernelIdeal := hKernelIdeal) (hReferenceIdeal := hReferenceIdeal) (hPre_ids_in_table_alpha_time_finite := hPre_ids_in_table_alpha_time_finite)
-- ==== Pre_ids_in_table.lean ====
abbrev S1024x200x128 : Shape := ⟨3, ![1024, 200, 128]⟩
abbrev S1024x200x4 : Shape := ⟨3, ![1024, 200, 4]⟩
abbrev S1024x16 : Shape := ⟨2, ![1024, 16]⟩
abbrev S1024x200x8 : Shape := ⟨3, ![1024, 200, 8]⟩
abbrev S1024 : Shape := ⟨1, ![1024]⟩
abbrev S20x4 : Shape := ⟨2, ![20, 4]⟩
abbrev S12x4 : Shape := ⟨2, ![12, 4]⟩
abbrev S31x4 : Shape := ⟨2, ![31, 4]⟩
abbrev S24x4 : Shape := ⟨2, ![24, 4]⟩
abbrev S16x128 : Shape := ⟨2, ![16, 128]⟩
abbrev S128 : Shape := ⟨1, ![128]⟩
abbrev S8x128 : Shape := ⟨2, ![8, 128]⟩
abbrev S128x128 : Shape := ⟨2, ![128, 128]⟩
abbrev S100000x128 : Shape := ⟨2, ![100000, 128]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x200x128 .f32) (main_arg1 : IVec S1024x200x4 32) (main_arg2 : FVec F S1024x16 .f32) (main_arg3 : FVec F S1024x200x8 .f32) (main_arg4 : IVec S1024 32) (main_arg5 : FVec F S20x4 .f32) (main_arg6 : FVec F S12x4 .f32) (main_arg7 : FVec F S31x4 .f32) (main_arg8 : FVec F S24x4 .f32) (main_arg9 : FVec F S16x128 .f32) (main_arg10 : FVec F S128 .f32) (main_arg11 : FVec F S16x128 .f32) (main_arg12 : FVec F S128 .f32) (main_arg13 : FVec F S8x128 .f32) (main_arg14 : FVec F S128 .f32) (main_arg15 : FVec F S128x128 .f32) (main_arg16 : FVec F S128 .f32) (main_arg17 : FVec F S100000x128 .f32) (main_arg18 : FVec F S_ .f32) (main_arg19 : FVec F S_ .f32) (main_arg20 : FVec F S_ .f32) (main_arg21 : FVec F S_ .f32) (main_arg22 : FVec F S128 .f32) (main_arg23 : FVec F S128 .f32) : IVec S_ 1 :=
  let main_c : IVec S_ 32 := constantI S_ 32 0#32
  let main_v0 : IVec S1024 32 := broadcastInDim S1024 ![] bcast_S_S1024 main_c
  let main_v1 : IVec S1024 1 := cmpi .sge main_arg4 main_v0
  let main_c_0 : IVec S_ 32 := constantI S_ 32 100000#32
  let main_v2 : IVec S1024 32 := broadcastInDim S1024 ![] bcast_S_S1024 main_c_0
  let main_v3 : IVec S1024 1 := cmpi .slt main_arg4 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_ids_in_table_alpha_time_finite.lean ====
abbrev S1024x200x128 : Shape := ⟨3, ![1024, 200, 128]⟩
abbrev S1024x200x4 : Shape := ⟨3, ![1024, 200, 4]⟩
abbrev S1024x16 : Shape := ⟨2, ![1024, 16]⟩
abbrev S1024x200x8 : Shape := ⟨3, ![1024, 200, 8]⟩
abbrev S1024 : Shape := ⟨1, ![1024]⟩
abbrev S20x4 : Shape := ⟨2, ![20, 4]⟩
abbrev S12x4 : Shape := ⟨2, ![12, 4]⟩
abbrev S31x4 : Shape := ⟨2, ![31, 4]⟩
abbrev S24x4 : Shape := ⟨2, ![24, 4]⟩
abbrev S16x128 : Shape := ⟨2, ![16, 128]⟩
abbrev S128 : Shape := ⟨1, ![128]⟩
abbrev S8x128 : Shape := ⟨2, ![8, 128]⟩
abbrev S128x128 : Shape := ⟨2, ![128, 128]⟩
abbrev S100000x128 : Shape := ⟨2, ![100000, 128]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  reducesTo_S_S_d : S_.ReducesTo [] S_

variable [Facts]

def fn {F : FTy → Type} [FloatOps F] (main_arg0 : FVec F S1024x200x128 .f32) (main_arg1 : IVec S1024x200x4 32) (main_arg2 : FVec F S1024x16 .f32) (main_arg3 : FVec F S1024x200x8 .f32) (main_arg4 : IVec S1024 32) (main_arg5 : FVec F S20x4 .f32) (main_arg6 : FVec F S12x4 .f32) (main_arg7 : FVec F S31x4 .f32) (main_arg8 : FVec F S24x4 .f32) (main_arg9 : FVec F S16x128 .f32) (main_arg10 : FVec F S128 .f32) (main_arg11 : FVec F S16x128 .f32) (main_arg12 : FVec F S128 .f32) (main_arg13 : FVec F S8x128 .f32) (main_arg14 : FVec F S128 .f32) (main_arg15 : FVec F S128x128 .f32) (main_arg16 : FVec F S128 .f32) (main_arg17 : FVec F S100000x128 .f32) (main_arg18 : FVec F S_ .f32) (main_arg19 : FVec F S_ .f32) (main_arg20 : FVec F S_ .f32) (main_arg21 : FVec F S_ .f32) (main_arg22 : FVec F S128 .f32) (main_arg23 : FVec F S128 .f32) : IVec S_ 1 :=
  let main_c : IVec S_ 32 := constantI S_ 32 0#32
  let main_v0 : IVec S1024 32 := broadcastInDim S1024 ![] bcast_S_S1024 main_c
  let main_v1 : IVec S1024 1 := cmpi .sge main_arg4 main_v0
  let main_c_0 : IVec S_ 32 := constantI S_ 32 100000#32
  let main_v2 : IVec S1024 32 := broadcastInDim S1024 ![] bcast_S_S1024 main_c_0
  let main_v3 : IVec S1024 1 := cmpi .slt main_arg4 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_v6 : FVec F S_ .f32 := Host.absf main_arg18
  let main_cst : FVec F S_ .f32 := constant S_ .f32 0x7F800000#32
  let main_v7 : IVec S_ 1 := cmpf .olt main_v6 main_cst
  let main_c_2 : IVec S_ 1 := constantI S_ 1 1#1
  let main_v8 : IVec S_ 1 := (fun x v => Host.reduce IntOp.andi x v reducesTo_S_S_d h_S_) main_v7 main_c_2
  let main_v9 : IVec S_ 1 := andi main_v5 main_v8
  main_v9
-- ==== Kernel.lean ====
abbrev S1024x200x128 : Shape := ⟨3, ![1024, 200, 128]⟩
abbrev S1024x200x4 : Shape := ⟨3, ![1024, 200, 4]⟩
abbrev S1024x16 : Shape := ⟨2, ![1024, 16]⟩
abbrev S1024x200x8 : Shape := ⟨3, ![1024, 200, 8]⟩
abbrev S1024 : Shape := ⟨1, ![1024]⟩
abbrev S20x4 : Shape := ⟨2, ![20, 4]⟩
abbrev S12x4 : Shape := ⟨2, ![12, 4]⟩
abbrev S31x4 : Shape := ⟨2, ![31, 4]⟩
abbrev S24x4 : Shape := ⟨2, ![24, 4]⟩
abbrev S16x128 : Shape := ⟨2, ![16, 128]⟩
abbrev S128 : Shape := ⟨1, ![128]⟩
abbrev S8x128 : Shape := ⟨2, ![8, 128]⟩
abbrev S128x128 : Shape := ⟨2, ![128, 128]⟩
abbrev S100000x128 : Shape := ⟨2, ![100000, 128]⟩
abbrev S_ : Shape := ⟨0, ![]⟩
abbrev S1024x128 : Shape := ⟨2, ![1024, 128]⟩
abbrev S32 : Shape := ⟨1, ![32]⟩
abbrev S32x128 : Shape := ⟨2, ![32, 128]⟩
abbrev S88x16 : Shape := ⟨2, ![88, 16]⟩
abbrev S1 : Shape := ⟨1, ![1]⟩
abbrev S2 : Shape := ⟨1, ![2]⟩
abbrev S204800x128 : Shape := ⟨2, ![204800, 128]⟩
abbrev S204800x4 : Shape := ⟨2, ![204800, 4]⟩
abbrev S204800x8 : Shape := ⟨2, ![204800, 8]⟩
abbrev S4 : Shape := ⟨1, ![4]⟩
abbrev S1x128 : Shape := ⟨2, ![1, 128]⟩
abbrev S3200x128 : Shape := ⟨2, ![3200, 128]⟩
abbrev S3200x4 : Shape := ⟨2, ![3200, 4]⟩
abbrev S3200x8 : Shape := ⟨2, ![3200, 8]⟩
abbrev S16x16 : Shape := ⟨2, ![16, 16]⟩
abbrev S3200x1 : Shape := ⟨2, ![3200, 1]⟩
abbrev S88x128 : Shape := ⟨2, ![88, 128]⟩
abbrev S24x128 : Shape := ⟨2, ![24, 128]⟩
abbrev S3200 : Shape := ⟨1, ![3200]⟩

abbrev nBuf : Table → Nat
  | .hbm => 67
  | .local .tc .vmem => 23
  | .local .tc .smem => 1
  | .local .scVector .vmem => 2
  | _ => 0

abbrev bufTy : (tb : Table) → Fin (nBuf tb) → BufTy
  | .hbm, ⟨0, _⟩ => ⟨S1024x200x128, .f32⟩
  | .hbm, ⟨1, _⟩ => ⟨S1024x200x4, .i32⟩
  | .hbm, ⟨2, _⟩ => ⟨S1024x16, .f32⟩
  | .hbm, ⟨3, _⟩ => ⟨S1024x200x8, .f32⟩
  | .hbm, ⟨4, _⟩ => ⟨S1024, .i32⟩
  | .hbm, ⟨5, _⟩ => ⟨S20x4, .f32⟩
  | .hbm, ⟨6, _⟩ => ⟨S12x4, .f32⟩
  | .hbm, ⟨7, _⟩ => ⟨S31x4, .f32⟩
  | .hbm, ⟨8, _⟩ => ⟨S24x4, .f32⟩
  | .hbm, ⟨9, _⟩ => ⟨S16x128, .f32⟩
  | .hbm, ⟨10, _⟩ => ⟨S128, .f32⟩
  | .hbm, ⟨11, _⟩ => ⟨S16x128, .f32⟩
  | .hbm, ⟨12, _⟩ => ⟨S128, .f32⟩
  | .hbm, ⟨13, _⟩ => ⟨S8x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S100000x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S1024x128, .f32⟩
  | .hbm, ⟨25, _⟩ => ⟨S_, .f32⟩
  | .hbm, ⟨26, _⟩ => ⟨S88x16, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S88x16, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S88x16, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S88x16, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S88x16, .f32⟩
  | .hbm, ⟨51, _⟩ => ⟨S204800x128, .f32⟩
  | .hbm, ⟨52, _⟩ => ⟨S204800x4, .i32⟩
  | .hbm, ⟨53, _⟩ => ⟨S204800x8, .f32⟩
  | .hbm, ⟨54, _⟩ => ⟨S1, .f32⟩
  | .hbm, ⟨55, _⟩ => ⟨S1, .f32⟩
  | .hbm, ⟨56, _⟩ => ⟨S1, .f32⟩
  | .hbm, ⟨57, _⟩ => ⟨S1, .f32⟩
  | .hbm, ⟨58, _⟩ => ⟨S4, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S204800x128, .f32⟩
  | .hbm, ⟨66, _⟩ => ⟨S1024x200x128, .f32⟩
  | .local .tc .vmem, ⟨0, _⟩ => ⟨S3200x128, .f32⟩
  | .local .tc .vmem, ⟨1, _⟩ => ⟨S3200x128, .f32⟩
  | .local .tc .vmem, ⟨2, _⟩ => ⟨S3200x4, .i32⟩
  | .local .tc .vmem, ⟨3, _⟩ => ⟨S3200x4, .i32⟩
  | .local .tc .vmem, ⟨4, _⟩ => ⟨S3200x8, .f32⟩
  | .local .tc .vmem, ⟨5, _⟩ => ⟨S3200x8, .f32⟩
  | .local .tc .vmem, ⟨6, _⟩ => ⟨S16x16, .f32⟩
  | .local .tc .vmem, ⟨7, _⟩ => ⟨S16x16, .f32⟩
  | .local .tc .vmem, ⟨8, _⟩ => ⟨S16x128, .f32⟩
  | .local .tc .vmem, ⟨9, _⟩ => ⟨S16x128, .f32⟩
  | .local .tc .vmem, ⟨10, _⟩ => ⟨S88x16, .f32⟩
  | .local .tc .vmem, ⟨11, _⟩ => ⟨S16x128, .f32⟩
  | .local .tc .vmem, ⟨12, _⟩ => ⟨S1x128, .f32⟩
  | .local .tc .vmem, ⟨13, _⟩ => ⟨S16x128, .f32⟩
  | .local .tc .vmem, ⟨14, _⟩ => ⟨S1x128, .f32⟩
  | .local .tc .vmem, ⟨15, _⟩ => ⟨S8x128, .f32⟩
  | .local .tc .vmem, ⟨16, _⟩ => ⟨S1x128, .f32⟩
  | .local .tc .vmem, ⟨17, _⟩ => ⟨S128x128, .f32⟩
  | .local .tc .vmem, ⟨18, _⟩ => ⟨S1x128, .f32⟩
  | .local .tc .vmem, ⟨19, _⟩ => ⟨S1x128, .f32⟩
  | .local .tc .vmem, ⟨20, _⟩ => ⟨S1x128, .f32⟩
  | .local .tc .vmem, ⟨21, _⟩ => ⟨S3200x128, .f32⟩
  | .local .tc .vmem, ⟨22, _⟩ => ⟨S3200x128, .f32⟩
  | .local .tc .smem, ⟨0, _⟩ => ⟨S4, .f32⟩
  | .local .scVector .vmem, ⟨0, _⟩ => ⟨S32, .i32⟩
  | .local .scVector .vmem, ⟨1, _⟩ => ⟨S32x128, .f32⟩
  | _, _ => ⟨S1024x200x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_c : Ref sig .tc := ⟨.hbm, 27, rfl⟩
abbrev main_v2 : Ref sig .tc := ⟨.hbm, 28, rfl⟩
abbrev main_c_0 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_c_1 : Ref sig .tc := ⟨.hbm, 33, rfl⟩
abbrev main_v6 : Ref sig .tc := ⟨.hbm, 34, rfl⟩
abbrev main_c_2 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_c_3 : Ref sig .tc := ⟨.hbm, 39, rfl⟩
abbrev main_v10 : Ref sig .tc := ⟨.hbm, 40, rfl⟩
abbrev main_c_4 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_5 : Ref sig .tc := ⟨.hbm, 45, rfl⟩
abbrev main_v14 : Ref sig .tc := ⟨.hbm, 46, rfl⟩
abbrev main_c_6 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_arg17_scv : Ref sig .scVector := ⟨.hbm, 17, rfl⟩
abbrev main_arg4_scv : Ref sig .scVector := ⟨.hbm, 4, rfl⟩
abbrev main_v0_scv : Ref sig .scVector := ⟨.hbm, 24, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg10_0 : Ref sig .tc := ⟨.vmem, 15, rfl⟩
abbrev cc1_stg11_0 : Ref sig .tc := ⟨.vmem, 16, rfl⟩
abbrev cc1_stg12_0 : Ref sig .tc := ⟨.vmem, 17, rfl⟩
abbrev cc1_stg13_0 : Ref sig .tc := ⟨.vmem, 18, rfl⟩
abbrev cc1_stg14_0 : Ref sig .tc := ⟨.vmem, 19, rfl⟩
abbrev cc1_stg15_0 : Ref sig .tc := ⟨.vmem, 20, rfl⟩
abbrev cc1_stg17_0 : Ref sig .tc := ⟨.vmem, 21, rfl⟩
abbrev cc1_stg17_1 : Ref sig .tc := ⟨.vmem, 22, rfl⟩
abbrev cc1_stg16_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev cc1_sem15_0 : DmaSem sig := 23
abbrev cc1_sem16_0 : DmaSem sig := 24
abbrev cc1_sem17_0 : DmaSem sig := 25
abbrev cc1_sem17_1 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x4 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S88x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S8x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .smem S4 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S3200x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200x128 : Shape := ⟨3, ![1024, 200, 128]⟩
abbrev S1024x200x4 : Shape := ⟨3, ![1024, 200, 4]⟩
abbrev S1024x16 : Shape := ⟨2, ![1024, 16]⟩
abbrev S1024x200x8 : Shape := ⟨3, ![1024, 200, 8]⟩
abbrev S1024 : Shape := ⟨1, ![1024]⟩
abbrev S20x4 : Shape := ⟨2, ![20, 4]⟩
abbrev S12x4 : Shape := ⟨2, ![12, 4]⟩
abbrev S31x4 : Shape := ⟨2, ![31, 4]⟩
abbrev S24x4 : Shape := ⟨2, ![24, 4]⟩
abbrev S16x128 : Shape := ⟨2, ![16, 128]⟩
abbrev S128 : Shape := ⟨1, ![128]⟩
abbrev S8x128 : Shape := ⟨2, ![8, 128]⟩
abbrev S128x128 : Shape := ⟨2, ![128, 128]⟩
abbrev S100000x128 : Shape := ⟨2, ![100000, 128]⟩
abbrev S_ : Shape := ⟨0, ![]⟩
abbrev S1024x200x1 : Shape := ⟨3, ![1024, 200, 1]⟩
abbrev S1024x200 : Shape := ⟨2, ![1024, 200]⟩
abbrev S1 : Shape := ⟨1, ![1]⟩
abbrev S1x1x1 : Shape := ⟨3, ![1, 1, 1]⟩
abbrev S1024x200x16 : Shape := ⟨3, ![1024, 200, 16]⟩
abbrev S1x1x128 : Shape := ⟨3, ![1, 1, 128]⟩
abbrev S1024x128 : Shape := ⟨2, ![1024, 128]⟩
abbrev S1x128 : Shape := ⟨2, ![1, 128]⟩
abbrev S1024x1x128 : Shape := ⟨3, ![1024, 1, 128]⟩
abbrev S1024x1 : Shape := ⟨2, ![1024, 1]⟩
abbrev S1x1 : Shape := ⟨2, ![1, 1]⟩

abbrev nBuf : Space → Nat
  | .hbm => 259
  | .vmem => 0
  | .smem => 0
  | _ => 0

abbrev hbmTy0_0 (i : Nat) : BufTy := match i % 128 with
  | 0 => ⟨S1024x200x128, .f32⟩
  | 1 => ⟨S1024x200x4, .i32⟩
  | 2 => ⟨S1024x16, .f32⟩
  | 3 => ⟨S1024x200x8, .f32⟩
  | 4 => ⟨S1024, .i32⟩
  | 5 => ⟨S20x4, .f32⟩
  | 6 => ⟨S12x4, .f32⟩
  | 7 => ⟨S31x4, .f32⟩
  | 8 => ⟨S24x4, .f32⟩
  | 9 => ⟨S16x128, .f32⟩
  | 10 => ⟨S128, .f32⟩
  | 11 => ⟨S16x128, .f32⟩
  | 12 => ⟨S128, .f32⟩
  | 13 => ⟨S8x128, .f32⟩
  | 14 => ⟨S128, .f32⟩
  | 15 => ⟨S128x128, .f32⟩
  | 16 => ⟨S128, .f32⟩
  | 17 => ⟨S100000x128, .f32⟩
  | 18 => ⟨S_, .f32⟩
  | 19 => ⟨S_, .f32⟩
  | 20 => ⟨S_, .f32⟩
  | 21 => ⟨S_, .f32⟩
  | 22 => ⟨S128, .f32⟩
  | 23 => ⟨S128, .f32⟩
  | 24 => ⟨S1024x200x1, .i32⟩
  | 25 => ⟨S1024x200, .i32⟩
  | 26 => ⟨S_, .i32⟩
  | 27 => ⟨S_, .i32⟩
  | 28 => ⟨S_, .i32⟩
  | 29 => ⟨S1024x200, .i32⟩
  | 30 => ⟨S1024x200, .i32⟩
  | 31 => ⟨S_, .i32⟩
  | 32 => ⟨S1024x200, .i32⟩
  | 33 => ⟨S1024x200, .i32⟩
  | 34 => ⟨S1024x200x1, .i32⟩
  | 35 => ⟨S1024x200, .i32⟩
  | 36 => ⟨S_, .i32⟩
  | 37 => ⟨S_, .i32⟩
  | 38 => ⟨S_, .i32⟩
  | 39 => ⟨S1024x200, .i32⟩
  | 40 => ⟨S1024x200, .i32⟩
  | 41 => ⟨S_, .i32⟩
  | 42 => ⟨S1024x200, .i32⟩
  | 43 => ⟨S1024x200, .i32⟩
  | 44 => ⟨S1024x200x1, .i32⟩
  | 45 => ⟨S1024x200, .i32⟩
  | 46 => ⟨S_, .i32⟩
  | 47 => ⟨S_, .i32⟩
  | 48 => ⟨S_, .i32⟩
  | 49 => ⟨S1024x200, .i32⟩
  | 50 => ⟨S1024x200, .i32⟩
  | 51 => ⟨S_, .i32⟩
  | 52 => ⟨S1024x200, .i32⟩
  | 53 => ⟨S1024x200, .i32⟩
  | 54 => ⟨S1024x200x1, .i32⟩
  | 55 => ⟨S1024x200, .i32⟩
  | 56 => ⟨S_, .i32⟩
  | 57 => ⟨S_, .i32⟩
  | 58 => ⟨S_, .i32⟩
  | 59 => ⟨S1024x200, .i32⟩
  | 60 => ⟨S1024x200, .i32⟩
  | 61 => ⟨S_, .i32⟩
  | 62 => ⟨S1024x200, .i32⟩
  | 63 => ⟨S1024x200, .i32⟩
  | 64 => ⟨S_, .i32⟩
  | 65 => ⟨S1024x200, .i32⟩
  | 66 => ⟨S1024x200, .i1⟩
  | 67 => ⟨S_, .i32⟩
  | 68 => ⟨S1024x200, .i32⟩
  | 69 => ⟨S1024x200, .i32⟩
  | 70 => ⟨S1024x200, .i32⟩
  | 71 => ⟨S1024x200x1, .i32⟩
  | 72 => ⟨S1, .i32⟩
  | 73 => ⟨S_, .i32⟩
  | 74 => ⟨S1024x200x1, .i32⟩
  | 75 => ⟨S1024x200x1, .i1⟩
  | 76 => ⟨S1x1x1, .i32⟩
  | 77 => ⟨S1024x200x1, .i32⟩
  | 78 => ⟨S1024x200x1, .i1⟩
  | 79 => ⟨S1024x200x1, .i1⟩
  | 80 => ⟨S_, .i1⟩
  | 81 => ⟨S1024x200, .i1⟩
  | 82 => ⟨S1024x200x4, .f32⟩
  | 83 => ⟨S1024x200x4, .i1⟩
  | 84 => ⟨S_, .f32⟩
  | 85 => ⟨S1024x200x4, .f32⟩
  | 86 => ⟨S1024x200x4, .f32⟩
  | 87 => ⟨S_, .i32⟩
  | 88 => ⟨S1024x200, .i32⟩
  | 89 => ⟨S1024x200, .i1⟩
  | 90 => ⟨S_, .i32⟩
  | 91 => ⟨S1024x200, .i32⟩
  | 92 => ⟨S1024x200, .i32⟩
  | 93 => ⟨S1024x200, .i32⟩
  | 94 => ⟨S1024x200x1, .i32⟩
  | 95 => ⟨S1, .i32⟩
  | 96 => ⟨S_, .i32⟩
  | 97 => ⟨S1024x200x1, .i32⟩
  | 98 => ⟨S1024x200x1, .i1⟩
  | 99 => ⟨S1x1x1, .i32⟩
  | 100 => ⟨S1024x200x1, .i32⟩
  | 101 => ⟨S1024x200x1, .i1⟩
  | 102 => ⟨S1024x200x1, .i1⟩
  | 103 => ⟨S_, .i1⟩
  | 104 => ⟨S1024x200, .i1⟩
  | 105 => ⟨S1024x200x4, .f32⟩
  | 106 => ⟨S1024x200x4, .i1⟩
  | 107 => ⟨S_, .f32⟩
  | 108 => ⟨S1024x200x4, .f32⟩
  | 109 => ⟨S1024x200x4, .f32⟩
  | 110 => ⟨S_, .i32⟩
  | 111 => ⟨S1024x200, .i32⟩
  | 112 => ⟨S1024x200, .i1⟩
  | 113 => ⟨S_, .i32⟩
  | 114 => ⟨S1024x200, .i32⟩
  | 115 => ⟨S1024x200, .i32⟩
  | 116 => ⟨S1024x200, .i32⟩
  | 117 => ⟨S1024x200x1, .i32⟩
  | 118 => ⟨S1, .i32⟩
  | 119 => ⟨S_, .i32⟩
  | 120 => ⟨S1024x200x1, .i32⟩
  | 121 => ⟨S1024x200x1, .i1⟩
  | 122 => ⟨S1x1x1, .i32⟩
  | 123 => ⟨S1024x200x1, .i32⟩
  | 124 => ⟨S1024x200x1, .i1⟩
  | 125 => ⟨S1024x200x1, .i1⟩
  | 126 => ⟨S_, .i1⟩
  | 127 => ⟨S1024x200, .i1⟩
  | _ => ⟨S1024x200x128, .f32⟩

abbrev hbmTy0_1 (i : Nat) : BufTy := match i % 128 with
  | 0 => ⟨S1024x200x4, .f32⟩
  | 1 => ⟨S1024x200x4, .i1⟩
  | 2 => ⟨S_, .f32⟩
  | 3 => ⟨S1024x200x4, .f32⟩
  | 4 => ⟨S1024x200x4, .f32⟩
  | 5 => ⟨S_, .i32⟩
  | 6 => ⟨S1024x200, .i32⟩
  | 7 => ⟨S1024x200, .i1⟩
  | 8 => ⟨S_, .i32⟩
  | 9 => ⟨S1024x200, .i32⟩
  | 10 => ⟨S1024x200, .i32⟩
  | 11 => ⟨S1024x200, .i32⟩
  | 12 => ⟨S1024x200x1, .i32⟩
  | 13 => ⟨S1, .i32⟩
  | 14 => ⟨S_, .i32⟩
  | 15 => ⟨S1024x200x1, .i32⟩
  | 16 => ⟨S1024x200x1, .i1⟩
  | 17 => ⟨S1x1x1, .i32⟩
  | 18 => ⟨S1024x200x1, .i32⟩
  | 19 => ⟨S1024x200x1, .i1⟩
  | 20 => ⟨S1024x200x1, .i1⟩
  | 21 => ⟨S_, .i1⟩
  | 22 => ⟨S1024x200, .i1⟩
  | 23 => ⟨S1024x200x4, .f32⟩
  | 24 => ⟨S1024x200x4, .i1⟩
  | 25 => ⟨S_, .f32⟩
  | 26 => ⟨S1024x200x4, .f32⟩
  | 27 => ⟨S1024x200x4, .f32⟩
  | 28 => ⟨S1024x200x16, .f32⟩
  | 29 => ⟨S1024x200x128, .f32⟩
  | 30 => ⟨S1x1x128, .f32⟩
  | 31 => ⟨S1024x200x128, .f32⟩
  | 32 => ⟨S1024x200x128, .f32⟩
  | 33 => ⟨S1024x200x128, .f32⟩
  | 34 => ⟨S1024x200x128, .f32⟩
  | 35 => ⟨S1024x200x128, .f32⟩
  | 36 => ⟨S1024x128, .f32⟩
  | 37 => ⟨S1x128, .f32⟩
  | 38 => ⟨S1024x128, .f32⟩
  | 39 => ⟨S1024x128, .f32⟩
  | 40 => ⟨S1024x1x128, .f32⟩
  | 41 => ⟨S1024x1x128, .f32⟩
  | 42 => ⟨S1024x1x128, .f32⟩
  | 43 => ⟨S1024x200x128, .f32⟩
  | 44 => ⟨S1024x200x128, .f32⟩
  | 45 => ⟨S1024x200x128, .f32⟩
  | 46 => ⟨S1x1x128, .f32⟩
  | 47 => ⟨S1024x200x128, .f32⟩
  | 48 => ⟨S1024x200x128, .f32⟩
  | 49 => ⟨S_, .f32⟩
  | 50 => ⟨S1024x200x128, .f32⟩
  | 51 => ⟨S1024x200x128, .f32⟩
  | 52 => ⟨S1024x200x128, .f32⟩
  | 53 => ⟨S1x1x128, .f32⟩
  | 54 => ⟨S1024x200x128, .f32⟩
  | 55 => ⟨S1024x200x128, .f32⟩
  | 56 => ⟨S1024x200x128, .f32⟩
  | 57 => ⟨S1024x200x128, .f32⟩
  | 58 => ⟨S1024x200x128, .f32⟩
  | 59 => ⟨S_, .i32⟩
  | 60 => ⟨S1024, .i32⟩
  | 61 => ⟨S1024, .i1⟩
  | 62 => ⟨S_, .i32⟩
  | 63 => ⟨S1024, .i32⟩
  | 64 => ⟨S1024, .i32⟩
  | 65 => ⟨S1024, .i32⟩
  | 66 => ⟨S1024x1, .i32⟩
  | 67 => ⟨S1, .i32⟩
  | 68 => ⟨S_, .i32⟩
  | 69 => ⟨S1024x1, .i32⟩
  | 70 => ⟨S1024x1, .i1⟩
  | 71 => ⟨S1x1, .i32⟩
  | 72 => ⟨S1024x1, .i32⟩
  | 73 => ⟨S1024x1, .i1⟩
  | 74 => ⟨S1024x1, .i1⟩
  | 75 => ⟨S_, .i1⟩
  | 76 => ⟨S1024, .i1⟩
  | 77 => ⟨S1024x128, .f32⟩
  | 78 => ⟨S1024x128, .i1⟩
  | 79 => ⟨S_, .f32⟩
  | 80 => ⟨S1024x128, .f32⟩
  | 81 => ⟨S1024x128, .f32⟩
  | 82 => ⟨S1024x1x128, .f32⟩
  | 83 => ⟨S1024x1x128, .f32⟩
  | 84 => ⟨S1024x1x128, .f32⟩
  | 85 => ⟨S1024x200x128, .f32⟩
  | 86 => ⟨S1024x200x128, .f32⟩
  | 87 => ⟨S_, .f32⟩
  | 88 => ⟨S1024x200, .f32⟩
  | 89 => ⟨S1024x200x1, .f32⟩
  | 90 => ⟨S_, .f32⟩
  | 91 => ⟨S1024x200x1, .f32⟩
  | 92 => ⟨S1024x200x1, .f32⟩
  | 93 => ⟨S_, .i32⟩
  | 94 => ⟨S_, .f32⟩
  | 95 => ⟨S1024x200, .f32⟩
  | 96 => ⟨S1024x200x1, .f32⟩
  | 97 => ⟨S_, .f32⟩
  | 98 => ⟨S1024x200x1, .f32⟩
  | 99 => ⟨S1024x200x1, .f32⟩
  | 100 => ⟨S1024x200x128, .f32⟩
  | 101 => ⟨S1024x200x128, .f32⟩
  | 102 => ⟨S1024x200x128, .f32⟩
  | 103 => ⟨S_, .f32⟩
  | 104 => ⟨S_, .f32⟩
  | 105 => ⟨S_, .f32⟩
  | 106 => ⟨S_, .f32⟩
  | 107 => ⟨S1024x200, .f32⟩
  | 108 => ⟨S1024x200x1, .f32⟩
  | 109 => ⟨S1024x200x1, .f32⟩
  | 110 => ⟨S1024x200x1, .f32⟩
  | 111 => ⟨S_, .f32⟩
  | 112 => ⟨S_, .i1⟩
  | 113 => ⟨S_, .f32⟩
  | 114 => ⟨S_, .f32⟩
  | 115 => ⟨S1024x200x1, .f32⟩
  | 116 => ⟨S1024x200x1, .f32⟩
  | 117 => ⟨S1024x200x128, .f32⟩
  | 118 => ⟨S1024x200x128, .f32⟩
  | 119 => ⟨S_, .f32⟩
  | 120 => ⟨S1024x200x1, .f32⟩
  | 121 => ⟨S1024x200x1, .f32⟩
  | 122 => ⟨S1024x200x1, .f32⟩
  | 123 => ⟨S1024x200x128, .f32⟩
  | 124 => ⟨S1024x200x128, .f32⟩
  | 125 => ⟨S1x1x128, .f32⟩
  | 126 => ⟨S1024x200x128, .f32⟩
  | 127 => ⟨S1024x200x128, .f32⟩
  | _ => ⟨S1024x200x128, .f32⟩

abbrev hbmTy0_2 (i : Nat) : BufTy := match i % 128 with
  | 0 => ⟨S1x1x128, .f32⟩
  | 1 => ⟨S1024x200x128, .f32⟩
  | 2 => ⟨S1024x200x128, .f32⟩
  | _ => ⟨S1024x200x128, .f32⟩

abbrev hbmTy (i : Nat) : BufTy := match i / 128 with
  | 0 => hbmTy0_0 i
  | 1 => hbmTy0_1 i
  | 2 => hbmTy0_2 i
  | _ => ⟨S1024x200x128, .f32⟩

abbrev bufTy : (tb : Table) → Fin (tcTables nBuf tb) → BufTy
  | .hbm, ⟨i, _⟩ => hbmTy i
  | _, _ => ⟨S1024x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_c : Ref sig .tc := ⟨.hbm, 26, rfl⟩
abbrev main_c_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_c_1 : Ref sig .tc := ⟨.hbm, 36, rfl⟩
abbrev main_c_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_c_3 : Ref sig .tc := ⟨.hbm, 46, rfl⟩
abbrev main_c_4 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_c_5 : Ref sig .tc := ⟨.hbm, 56, rfl⟩
abbrev main_c_6 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v11 : Ref sig .tc := ⟨.hbm, 63, rfl⟩
abbrev main_call4_c : Ref sig .tc := ⟨.hbm, 64, rfl⟩
abbrev main_call4_v0 : Ref sig .tc := ⟨.hbm, 65, rfl⟩
abbrev main_call4_v1 : Ref sig .tc := ⟨.hbm, 66, rfl⟩
abbrev main_call4_c_0 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_v5 : Ref sig .tc := ⟨.hbm, 71, rfl⟩
abbrev main_call4_c_1 : Ref sig .tc := ⟨.hbm, 72, rfl⟩
abbrev main_call4_c_2 : Ref sig .tc := ⟨.hbm, 73, rfl⟩
abbrev main_call4_v6 : Ref sig .tc := ⟨.hbm, 74, rfl⟩
abbrev main_call4_v7 : Ref sig .tc := ⟨.hbm, 75, rfl⟩
abbrev main_call4_v8 : Ref sig .tc := ⟨.hbm, 76, rfl⟩
abbrev main_call4_v9 : Ref sig .tc := ⟨.hbm, 77, rfl⟩
abbrev main_call4_v10 : Ref sig .tc := ⟨.hbm, 78, rfl⟩
abbrev main_call4_v11 : Ref sig .tc := ⟨.hbm, 79, rfl⟩
abbrev main_call4_c_3 : Ref sig .tc := ⟨.hbm, 80, rfl⟩
abbrev main_call4_v12 : Ref sig .tc := ⟨.hbm, 81, rfl⟩
abbrev main_call4_v13 : Ref sig .tc := ⟨.hbm, 82, rfl⟩
abbrev main_call4_v14 : Ref sig .tc := ⟨.hbm, 83, rfl⟩
abbrev main_call4_cst : Ref sig .tc := ⟨.hbm, 84, rfl⟩
abbrev main_call4_v15 : Ref sig .tc := ⟨.hbm, 85, rfl⟩
abbrev main_v12 : Ref sig .tc := ⟨.hbm, 86, rfl⟩
abbrev main_call5_c : Ref sig .tc := ⟨.hbm, 87, rfl⟩
abbrev main_call5_v0 : Ref sig .tc := ⟨.hbm, 88, rfl⟩
abbrev main_call5_v1 : Ref sig .tc := ⟨.hbm, 89, rfl⟩
abbrev main_call5_c_0 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_v5 : Ref sig .tc := ⟨.hbm, 94, rfl⟩
abbrev main_call5_c_1 : Ref sig .tc := ⟨.hbm, 95, rfl⟩
abbrev main_call5_c_2 : Ref sig .tc := ⟨.hbm, 96, rfl⟩
abbrev main_call5_v6 : Ref sig .tc := ⟨.hbm, 97, rfl⟩
abbrev main_call5_v7 : Ref sig .tc := ⟨.hbm, 98, rfl⟩
abbrev main_call5_v8 : Ref sig .tc := ⟨.hbm, 99, rfl⟩
abbrev main_call5_v9 : Ref sig .tc := ⟨.hbm, 100, rfl⟩
abbrev main_call5_v10 : Ref sig .tc := ⟨.hbm, 101, rfl⟩
abbrev main_call5_v11 : Ref sig .tc := ⟨.hbm, 102, rfl⟩
abbrev main_call5_c_3 : Ref sig .tc := ⟨.hbm, 103, rfl⟩
abbrev main_call5_v12 : Ref sig .tc := ⟨.hbm, 104, rfl⟩
abbrev main_call5_v13 : Ref sig .tc := ⟨.hbm, 105, rfl⟩
abbrev main_call5_v14 : Ref sig .tc := ⟨.hbm, 106, rfl⟩
abbrev main_call5_cst : Ref sig .tc := ⟨.hbm, 107, rfl⟩
abbrev main_call5_v15 : Ref sig .tc := ⟨.hbm, 108, rfl⟩
abbrev main_v13 : Ref sig .tc := ⟨.hbm, 109, rfl⟩
abbrev main_call6_c : Ref sig .tc := ⟨.hbm, 110, rfl⟩
abbrev main_call6_v0 : Ref sig .tc := ⟨.hbm, 111, rfl⟩
abbrev main_call6_v1 : Ref sig .tc := ⟨.hbm, 112, rfl⟩
abbrev main_call6_c_0 : Ref sig .tc := ⟨.hbm, 113, rfl⟩
abbrev main_call6_v2 : Ref sig .tc := ⟨.hbm, 114, rfl⟩
abbrev main_call6_v3 : Ref sig .tc := ⟨.hbm, 115, rfl⟩
abbrev main_call6_v4 : Ref sig .tc := ⟨.hbm, 116, rfl⟩
abbrev main_call6_v5 : Ref sig .tc := ⟨.hbm, 117, rfl⟩
abbrev main_call6_c_1 : Ref sig .tc := ⟨.hbm, 118, rfl⟩
abbrev main_call6_c_2 : Ref sig .tc := ⟨.hbm, 119, rfl⟩
abbrev main_call6_v6 : Ref sig .tc := ⟨.hbm, 120, rfl⟩
abbrev main_call6_v7 : Ref sig .tc := ⟨.hbm, 121, rfl⟩
abbrev main_call6_v8 : Ref sig .tc := ⟨.hbm, 122, rfl⟩
abbrev main_call6_v9 : Ref sig .tc := ⟨.hbm, 123, rfl⟩
abbrev main_call6_v10 : Ref sig .tc := ⟨.hbm, 124, rfl⟩
abbrev main_call6_v11 : Ref sig .tc := ⟨.hbm, 125, rfl⟩
abbrev main_call6_c_3 : Ref sig .tc := ⟨.hbm, 126, rfl⟩
abbrev main_call6_v12 : Ref sig .tc := ⟨.hbm, 127, rfl⟩
abbrev main_call6_v13 : Ref sig .tc := ⟨.hbm, 128, rfl⟩
abbrev main_call6_v14 : Ref sig .tc := ⟨.hbm, 129, rfl⟩
abbrev main_call6_cst : Ref sig .tc := ⟨.hbm, 130, rfl⟩
abbrev main_call6_v15 : Ref sig .tc := ⟨.hbm, 131, rfl⟩
abbrev main_v14 : Ref sig .tc := ⟨.hbm, 132, rfl⟩
abbrev main_call7_c : Ref sig .tc := ⟨.hbm, 133, rfl⟩
abbrev main_call7_v0 : Ref sig .tc := ⟨.hbm, 134, rfl⟩
abbrev main_call7_v1 : Ref sig .tc := ⟨.hbm, 135, rfl⟩
abbrev main_call7_c_0 : Ref sig .tc := ⟨.hbm, 136, rfl⟩
abbrev main_call7_v2 : Ref sig .tc := ⟨.hbm, 137, rfl⟩
abbrev main_call7_v3 : Ref sig .tc := ⟨.hbm, 138, rfl⟩
abbrev main_call7_v4 : Ref sig .tc := ⟨.hbm, 139, rfl⟩
abbrev main_call7_v5 : Ref sig .tc := ⟨.hbm, 140, rfl⟩
abbrev main_call7_c_1 : Ref sig .tc := ⟨.hbm, 141, rfl⟩
abbrev main_call7_c_2 : Ref sig .tc := ⟨.hbm, 142, rfl⟩
abbrev main_call7_v6 : Ref sig .tc := ⟨.hbm, 143, rfl⟩
abbrev main_call7_v7 : Ref sig .tc := ⟨.hbm, 144, rfl⟩
abbrev main_call7_v8 : Ref sig .tc := ⟨.hbm, 145, rfl⟩
abbrev main_call7_v9 : Ref sig .tc := ⟨.hbm, 146, rfl⟩
abbrev main_call7_v10 : Ref sig .tc := ⟨.hbm, 147, rfl⟩
abbrev main_call7_v11 : Ref sig .tc := ⟨.hbm, 148, rfl⟩
abbrev main_call7_c_3 : Ref sig .tc := ⟨.hbm, 149, rfl⟩
abbrev main_call7_v12 : Ref sig .tc := ⟨.hbm, 150, rfl⟩
abbrev main_call7_v13 : Ref sig .tc := ⟨.hbm, 151, rfl⟩
abbrev main_call7_v14 : Ref sig .tc := ⟨.hbm, 152, rfl⟩
abbrev main_call7_cst : Ref sig .tc := ⟨.hbm, 153, rfl⟩
abbrev main_call7_v15 : Ref sig .tc := ⟨.hbm, 154, rfl⟩
abbrev main_v15 : Ref sig .tc := ⟨.hbm, 155, rfl⟩
abbrev main_v16 : Ref sig .tc := ⟨.hbm, 156, rfl⟩
abbrev main_v17 : Ref sig .tc := ⟨.hbm, 157, rfl⟩
abbrev main_v18 : Ref sig .tc := ⟨.hbm, 158, rfl⟩
abbrev main_v19 : Ref sig .tc := ⟨.hbm, 159, rfl⟩
abbrev main_v20 : Ref sig .tc := ⟨.hbm, 160, rfl⟩
abbrev main_v21 : Ref sig .tc := ⟨.hbm, 161, rfl⟩
abbrev main_v22 : Ref sig .tc := ⟨.hbm, 162, rfl⟩
abbrev main_v23 : Ref sig .tc := ⟨.hbm, 163, rfl⟩
abbrev main_v24 : Ref sig .tc := ⟨.hbm, 164, rfl⟩
abbrev main_v25 : Ref sig .tc := ⟨.hbm, 165, rfl⟩
abbrev main_v26 : Ref sig .tc := ⟨.hbm, 166, rfl⟩
abbrev main_v27 : Ref sig .tc := ⟨.hbm, 167, rfl⟩
abbrev main_v28 : Ref sig .tc := ⟨.hbm, 168, rfl⟩
abbrev main_v29 : Ref sig .tc := ⟨.hbm, 169, rfl⟩
abbrev main_v30 : Ref sig .tc := ⟨.hbm, 170, rfl⟩
abbrev main_v31 : Ref sig .tc := ⟨.hbm, 171, rfl⟩
abbrev main_v32 : Ref sig .tc := ⟨.hbm, 172, rfl⟩
abbrev main_v33 : Ref sig .tc := ⟨.hbm, 173, rfl⟩
abbrev main_v34 : Ref sig .tc := ⟨.hbm, 174, rfl⟩
abbrev main_v35 : Ref sig .tc := ⟨.hbm, 175, rfl⟩
abbrev main_v36 : Ref sig .tc := ⟨.hbm, 176, rfl⟩
abbrev main_call8_cst : Ref sig .tc := ⟨.hbm, 177, rfl⟩
abbrev main_call8_v0 : Ref sig .tc := ⟨.hbm, 178, rfl⟩
abbrev main_v37 : Ref sig .tc := ⟨.hbm, 179, rfl⟩
abbrev main_v38 : Ref sig .tc := ⟨.hbm, 180, rfl⟩
abbrev main_v39 : Ref sig .tc := ⟨.hbm, 181, rfl⟩
abbrev main_v40 : Ref sig .tc := ⟨.hbm, 182, rfl⟩
abbrev main_v41 : Ref sig .tc := ⟨.hbm, 183, rfl⟩
abbrev main_v42 : Ref sig .tc := ⟨.hbm, 184, rfl⟩
abbrev main_v43 : Ref sig .tc := ⟨.hbm, 185, rfl⟩
abbrev main_v44 : Ref sig .tc := ⟨.hbm, 186, rfl⟩
abbrev main_call9_c : Ref sig .tc := ⟨.hbm, 187, rfl⟩
abbrev main_call9_v0 : Ref sig .tc := ⟨.hbm, 188, rfl⟩
abbrev main_call9_v1 : Ref sig .tc := ⟨.hbm, 189, rfl⟩
abbrev main_call9_c_0 : Ref sig .tc := ⟨.hbm, 190, rfl⟩
abbrev main_call9_v2 : Ref sig .tc := ⟨.hbm, 191, rfl⟩
abbrev main_call9_v3 : Ref sig .tc := ⟨.hbm, 192, rfl⟩
abbrev main_call9_v4 : Ref sig .tc := ⟨.hbm, 193, rfl⟩
abbrev main_call9_v5 : Ref sig .tc := ⟨.hbm, 194, rfl⟩
abbrev main_call9_c_1 : Ref sig .tc := ⟨.hbm, 195, rfl⟩
abbrev main_call9_c_2 : Ref sig .tc := ⟨.hbm, 196, rfl⟩
abbrev main_call9_v6 : Ref sig .tc := ⟨.hbm, 197, rfl⟩
abbrev main_call9_v7 : Ref sig .tc := ⟨.hbm, 198, rfl⟩
abbrev main_call9_v8 : Ref sig .tc := ⟨.hbm, 199, rfl⟩
abbrev main_call9_v9 : Ref sig .tc := ⟨.hbm, 200, rfl⟩
abbrev main_call9_v10 : Ref sig .tc := ⟨.hbm, 201, rfl⟩
abbrev main_call9_v11 : Ref sig .tc := ⟨.hbm, 202, rfl⟩
abbrev main_call9_c_3 : Ref sig .tc := ⟨.hbm, 203, rfl⟩
abbrev main_call9_v12 : Ref sig .tc := ⟨.hbm, 204, rfl⟩
abbrev main_call9_v13 : Ref sig .tc := ⟨.hbm, 205, rfl⟩
abbrev main_call9_v14 : Ref sig .tc := ⟨.hbm, 206, rfl⟩
abbrev main_call9_cst : Ref sig .tc := ⟨.hbm, 207, rfl⟩
abbrev main_call9_v15 : Ref sig .tc := ⟨.hbm, 208, rfl⟩
abbrev main_v45 : Ref sig .tc := ⟨.hbm, 209, rfl⟩
abbrev main_v46 : Ref sig .tc := ⟨.hbm, 210, rfl⟩
abbrev main_v47 : Ref sig .tc := ⟨.hbm, 211, rfl⟩
abbrev main_v48 : Ref sig .tc := ⟨.hbm, 212, rfl⟩
abbrev main_v49 : Ref sig .tc := ⟨.hbm, 213, rfl⟩
abbrev main_v50 : Ref sig .tc := ⟨.hbm, 214, rfl⟩
abbrev main_cst : Ref sig .tc := ⟨.hbm, 215, rfl⟩
abbrev main_v51 : Ref sig .tc := ⟨.hbm, 216, rfl⟩
abbrev main_v52 : Ref sig .tc := ⟨.hbm, 217, rfl⟩
abbrev main_cst_7 : Ref sig .tc := ⟨.hbm, 218, rfl⟩
abbrev main_v53 : Ref sig .tc := ⟨.hbm, 219, rfl⟩
abbrev main_v54 : Ref sig .tc := ⟨.hbm, 220, rfl⟩
abbrev main_c_8 : Ref sig .tc := ⟨.hbm, 221, rfl⟩
abbrev main_call10_cst : Ref sig .tc := ⟨.hbm, 222, rfl⟩
abbrev main_call10_v0 : Ref sig .tc := ⟨.hbm, 223, rfl⟩
abbrev main_call10_v1 : Ref sig .tc := ⟨.hbm, 224, rfl⟩
abbrev main_call10_cst_0 : Ref sig .tc := ⟨.hbm, 225, rfl⟩
abbrev main_call10_v2 : Ref sig .tc := ⟨.hbm, 226, rfl⟩
abbrev main_call10_v3 : Ref sig .tc := ⟨.hbm, 227, rfl⟩
abbrev main_call10_v4 : Ref sig .tc := ⟨.hbm, 228, rfl⟩
abbrev main_call10_v5 : Ref sig .tc := ⟨.hbm, 229, rfl⟩
abbrev main_call10_v6 : Ref sig .tc := ⟨.hbm, 230, rfl⟩
abbrev main_call10_v7 : Ref sig .tc := ⟨.hbm, 231, rfl⟩
abbrev main_call10_cst_1 : Ref sig .tc := ⟨.hbm, 232, rfl⟩
abbrev main_call10_v8 : Ref sig .tc := ⟨.hbm, 233, rfl⟩
abbrev main_call10_cst_2 : Ref sig .tc := ⟨.hbm, 234, rfl⟩
abbrev main_call10_v9 : Ref sig .tc := ⟨.hbm, 235, rfl⟩
abbrev main_call10_v10 : Ref sig .tc := ⟨.hbm, 236, rfl⟩
abbrev main_call10_v11 : Ref sig .tc := ⟨.hbm, 237, rfl⟩
abbrev main_call10_v12 : Ref sig .tc := ⟨.hbm, 238, rfl⟩
abbrev main_call10_cst_3 : Ref sig .tc := ⟨.hbm, 239, rfl⟩
abbrev main_call10_v13 : Ref sig .tc := ⟨.hbm, 240, rfl⟩
abbrev main_call10_cst_4 : Ref sig .tc := ⟨.hbm, 241, rfl⟩
abbrev main_call10_call0_v0 : Ref sig .tc := ⟨.hbm, 242, rfl⟩
abbrev main_call10_call0_v1 : Ref sig .tc := ⟨.hbm, 243, rfl⟩
abbrev main_v55 : Ref sig .tc := ⟨.hbm, 244, rfl⟩
abbrev main_v56 : Ref sig .tc := ⟨.hbm, 245, rfl⟩
abbrev main_v57 : Ref sig .tc := ⟨.hbm, 246, rfl⟩
abbrev main_cst_9 : Ref sig .tc := ⟨.hbm, 247, rfl⟩
abbrev main_v58 : Ref sig .tc := ⟨.hbm, 248, rfl⟩
abbrev main_v59 : Ref sig .tc := ⟨.hbm, 249, rfl⟩
abbrev main_v60 : Ref sig .tc := ⟨.hbm, 250, rfl⟩
abbrev main_v61 : Ref sig .tc := ⟨.hbm, 251, rfl⟩
abbrev main_v62 : Ref sig .tc := ⟨.hbm, 252, rfl⟩
abbrev main_v63 : Ref sig .tc := ⟨.hbm, 253, rfl⟩
abbrev main_v64 : Ref sig .tc := ⟨.hbm, 254, rfl⟩
abbrev main_v65 : Ref sig .tc := ⟨.hbm, 255, rfl⟩
abbrev main_v66 : Ref sig .tc := ⟨.hbm, 256, rfl⟩
abbrev main_v67 : Ref sig .tc := ⟨.hbm, 257, rfl⟩
abbrev main_v68 : Ref sig .tc := ⟨.hbm, 258, rfl⟩

abbrev nD : Nat := 1
abbrev τ : Topo := Topo.v7x

variable {F : FTy → Type} [FloatOps F]
-- ==== Proof.PI.Gather.lean ====
/-
  The SparseCore half of the kernel: thirty-two tasks, one per vector subcore of the two SparseCores. Task `(c, s)` has
  number `2 s + c`; it fetches its thirty-two station ids, gathers those rows of the station table into its row scratch and
  writes them out to its thirty-two rows of the gathered array. The value is carried through: a task's rows of the gathered
  array end at `gath`, the table's rows named by the ids.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.ShareLeaves

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds, in the left of the right component. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The launch memory and the buffers -/

variable (m : (ℓ : Loc nD τ sig) → Buf (Elt F) ℓ) (ρ : Dev nD → PrngReg)

abbrev iLoc (d : Dev nD) : Loc nD τ sig := (SparseCore.T d).loc main_arg4
abbrev xLoc (d : Dev nD) : Loc nD τ sig := (SparseCore.T d).loc main_arg17
abbrev oLoc (d : Dev nD) : Loc nD τ sig := (SparseCore.T d).loc main_v0

local notation "iV" => (Memref.whole Cert.KernelIdeal.main_arg4_scv : Memref Cert.KernelIdeal.sig Kind.scVector Space.hbm Cert.KernelIdeal.S1024 EltTy.i32)
local notation "xV" => (Memref.whole Cert.KernelIdeal.main_arg17_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

theorem idiv : 32 ∣ S1024.size 0 := ⟨32, rfl⟩
theorem odiv : 32 ∣ S1024x128.size 0 := ⟨32, rfl⟩
abbrev irow (i : Fin 32) : Rect S1024 := Rect.part (s := S1024) (a₀ := 0) idiv i
abbrev orow (i : Fin 32) : Rect S1024x128 := Rect.part (s := S1024x128) (a₀ := 0) odiv i
abbrev iRowSet (i : Fin 32) : Finset S1024.Idx := ((iV).view.slice (irow i)).set
abbrev oRowSet (i : Fin 32) : Finset S1024x128.Idx := ((oV).view.slice (orow i)).set

/-- Task `i`'s share of the table. -/
abbrev xq (i : Fin 32) : PosShare TreeShare := leaf 5 fullShare i

/-- What the gather leaves: row `r` is the table's row that id `r` names. -/
def gath (d : Dev nD) : Buf (Elt F) (oLoc d) := fun (j : S1024x128.Idx) =>
  m (xLoc d) (ix2 (n0 := 100000) (n1 := 128) ⟨(m (iLoc d) (ix1 (n := 1024) (j 0))).toNat % 100000, Nat.mod_lt _ (by decide)⟩ (j 1))

/-- Task number of subcore `s` on SparseCore `c`. -/
abbrev num (c : Fin 2) (s : Fin 16) : Fin 32 := ⟨2 * s.val + c.val, by omega⟩

variable [FloatOps F]

/-! ## What the handshakes carry -/

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iRowPts (d : Dev nD) (i : Fin 32) : sProp 𝕄 := iLoc d ↦[iRowSet i]{fullShare} m (iLoc d)
abbrev xShPts (d : Dev nD) (i : Fin 32) : sProp 𝕄 := xLoc d ↦{xq i} m (xLoc d)
abbrev oRowPts (d : Dev nD) (i : Fin 32) (f : Buf (Elt F) (oLoc d)) : sProp 𝕄 := oLoc d ↦[oRowSet i]{fullShare} f

/-- Task `i`'s operands, its rows of the gathered array at `f`. -/
abbrev taskPts (d : Dev nD) (i : Fin 32) (f : Buf (Elt F) (oLoc d)) : sProp 𝕄 :=
  iprop(iRowPts m d i ∗ xShPts m d i ∗ oRowPts d i f)
/-- The operands of SparseCore `c`'s sixteen tasks. -/
abbrev corePts (d : Dev nD) (c : Fin 2) (f : Buf (Elt F) (oLoc d)) : sProp 𝕄 :=
  bigSep Finset.univ fun i : Fin ((K (F := F)).nSub 0) => taskPts m d (num c (Fin.cast nSub_zero i)) f

/-- The one call takes each SparseCore's tasks' operands, each task its own, and brings them back, the gathered rows written. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (gath m d)
  go := fun q d c i => match q with | 0 => taskPts m d (num (Fin.cast nCore_zero c) (Fin.cast nSub_zero i)) (m (oLoc d))
  td := fun q d c i => match q with | 0 => taskPts m d (num (Fin.cast nCore_zero c) (Fin.cast nSub_zero i)) (gath m d)
  x := fun _ _ => iprop(emp)

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (gath m d)))
  go q d c i := match q with
    | 0 => (inferInstance : BI.Storable (upEmb : UEmb _ 𝕄) (taskPts m d (num (Fin.cast nCore_zero c) (Fin.cast nSub_zero i)) (m (oLoc d))))
  td q d c i := match q with
    | 0 => (inferInstance : BI.Storable (upEmb : UEmb _ 𝕄) (taskPts m d (num (Fin.cast nCore_zero c) (Fin.cast nSub_zero i)) (gath m d)))

/-- What the proof asks of the launch memory: every station id names a row of the table. -/
def PreOK : Prop := ∀ (d : Dev nD) (j : S1024.Idx), (m (iLoc d) j).toNat < 100000

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev nL (L : grid0.Coords) : Fin 32 := num (Fin.cast bound_zero (L 0)) (Fin.cast bound_one (L 1))

abbrev irowK (L : grid0.Coords) : Rect S1024 := Rect.unit (s := S1024) (k0_off1 L) S32.size (k0_off1_inb L)
abbrev orowK (L : grid0.Coords) : Rect S1024x128 := Rect.unit (s := S1024x128) (k0_off2 L) S32x128.size (k0_off2_inb L)
/-- The task's ids, its rows of the gathered array and all of the table, as the task addresses them. -/
abbrev iRowK (L : grid0.Coords) : Memref sig .scVector .hbm S32 .i32 := (iV).slice (irowK L) (fun _ => rfl)
abbrev oRowK (L : grid0.Coords) : Memref sig .scVector .hbm S32x128 .f32 := (oV).slice (orowK L) (fun _ => rfl)
abbrev xAllK : Memref sig .scVector .hbm S100000x128 .f32 := (xV).slice (Rect.unit (s := S100000x128) ![0, 0] S100000x128.size inb_S100000x128_S100000x128_0_0) (fun _ => rfl)

omit [FloatOps F] in
theorem irowK_eq : irowK L = irow (nL L) := by
  unfold irowK irow Rect.part Rect.block
  congr 1 <;> funext a
  · rw [k0_off1_eq]
    match a with
    | 0 => simp [Shape.partIx, Shape.partSize, num, Fin.val_cast]; ring_nf; rfl
  · match a with
    | 0 => simp [Shape.partSize]
omit [FloatOps F] in
theorem orowK_eq : orowK L = orow (nL L) := by
  unfold orowK orow Rect.part Rect.block
  congr 1 <;> funext a
  · rw [k0_off2_eq]
    match a with
    | 0 => simp [Shape.partIx, Shape.partSize, num, Fin.val_cast]; ring_nf; rfl
    | 1 => simp [Shape.partIx, Shape.partSize]
  · match a with
    | 0 => simp [Shape.partSize]
    | 1 => simp [Shape.partSize]

omit [FloatOps F] in
theorem set_iRowK : (iRowK L).view.set = iRowSet (nL L) := by
  show ((iV).view.slice (irowK L)).set = ((iV).view.slice (irow (nL L))).set
  exact irowK_eq L ▸ rfl
omit [FloatOps F] in
theorem set_oRowK : (oRowK L).view.set = oRowSet (nL L) := by
  show ((oV).view.slice (orowK L)).set = ((oV).view.slice (orow (nL L))).set
  exact orowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (nL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (nL L)]{fullShare} f := by
  rw [set_oRowK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The ids the stream reads are in range. -/
theorem inb_of_pre (hpre : PreOK m) (fs : Buf (Elt F) ((V d (cV L) (jV L)).loc cc0_scratch0)) (pay : S32.Idx → Elt F .i32)
    (hpay : pay = (iRowK L).view.read (Elt F) (m (iLoc d))) :
    ∀ x, ((sV).view.read (Elt F) (View.write (Elt F) (sV).view fs pay Finset.univ) x).toNat < S100000x128.size gathers_S100000x128_S32x128.axis := by
  subst hpay; intro x
  rw [View.write_whole_univ]
  simp only [Memref.view_whole, View.read_whole]
  rw [show ∀ j, (iRowK L).view.read (Elt F) (m (iLoc d)) j = m (iLoc d) ((iRowK L).view.emb j) from fun j => (View.read_apply _ _).trans (cast_eq _ _)]
  exact hpre d _

omit [FloatOps F] in
theorem emb_iRowK (x : S32.Idx) : ((iRowK L).view.emb x 0).val = 64 * (L 1).val + 32 * (L 0).val + (x 0).val := by
  show k0_off1 L 0 + 1 * (x 0).val = _
  rw [k0_off1_eq]; simp
omit [FloatOps F] in
theorem emb_oRowK_0 (x : S32x128.Idx) : ((oRowK L).view.emb x 0).val = 64 * (L 1).val + 32 * (L 0).val + (x 0).val := by
  show k0_off2 L 0 + 1 * (x 0).val = _
  rw [k0_off2_eq]; simp
omit [FloatOps F] in
theorem emb_oRowK_1 (x : S32x128.Idx) : ((oRowK L).view.emb x 1).val = (x 1).val := by
  show k0_off2 L 1 + 1 * (x 1).val = _
  rw [k0_off2_eq]; simp

omit [FloatOps F] in
/-- The gathered rows at an index of the task's block: the table's row its id names. -/
theorem payload_apply (hpre : PreOK m) (w : S32.Idx → Elt F .i32) (hw : ∀ x, w x = m (iLoc d) ((iRowK L).view.emb x))
    (hn : S32.numel = S32x128.size gathers_S100000x128_S32x128.axis')
    (hin : ∀ x, (w x).toNat < S100000x128.size gathers_S100000x128_S32x128.axis) (x : S32x128.Idx) :
    SparseCore.gatherPayload gathers_S100000x128_S32x128 ((xAllK).view.read (Elt F) (m (xLoc d))) (SparseCore.rows w hn hin) x
      = gath m d ((oRowK L).view.emb x) := by
  unfold SparseCore.gatherPayload gath
  refine ((View.read_apply _ _).trans (cast_eq _ _)).trans (congrArg (m (xLoc d)) ?_)
  have hrow : ∀ k : Fin 32, (S32.rowMajor.symm (k.cast hn.symm)) = ix1 (n := 32) k := fun k => by
    rw [Equiv.symm_apply_eq]; exact Fin.ext (Shape.rowMajor_val_one (d := ![32]) (ix1 (n := 32) k)).symm
  have hid : (iRowK L).view.emb (ix1 (n := 32) (x 0)) = ix1 (n := 1024) ((oRowK L).view.emb x 0) := by
    funext a; match a with
    | ⟨0, _⟩ => exact Fin.ext ((emb_iRowK L _).trans (emb_oRowK_0 L x).symm)
  funext a
  match a with
  | ⟨0, _⟩ =>
    refine Fin.ext ?_
    show 0 + 1 * (Shape.Gathers.idx gathers_S100000x128_S32x128 (SparseCore.rows w hn hin) x gathers_S100000x128_S32x128.axis).val = _
    rw [Shape.Gathers.idx_axis]
    show 0 + 1 * (w (S32.rowMajor.symm ((x 0).cast hn.symm))).toNat = _
    refine (congrArg (fun z => 0 + 1 * (w z).toNat) (hrow (x 0))).trans ?_
    refine (congrArg (fun z : BitVec 32 => 0 + 1 * z.toNat) ((hw _).trans (congrArg (m (iLoc d)) hid))).trans ?_
    exact (by rw [Nat.zero_add, Nat.one_mul]; exact (Nat.mod_eq_of_lt (hpre d _)).symm)
  | ⟨1, _⟩ =>
    refine Fin.ext ?_
    show 0 + 1 * (Shape.Gathers.idx gathers_S100000x128_S32x128 (SparseCore.rows w hn hin) x ⟨1, by decide⟩).val = _
    rw [Shape.Gathers.idx_of_ne _ _ _ _ (by decide)]
    exact (by rw [Nat.zero_add, Nat.one_mul]; exact (emb_oRowK_1 L x).symm)

omit [FloatOps F] in
/-- A block written whole with the gathered rows' values is, on its rows, the gathered array. -/
theorem rows_gath (fo : Buf (Elt F) (oLoc d)) (out : S32x128.Idx → Elt F .f32) (hout : ∀ x, out x = gath m d ((oRowK L).view.emb x)) :
    (oLoc d ↦[oRowSet (nL L)]{fullShare} ((oRowK L).view.writes (Elt F) fo [⟨Rect.whole S32x128, out⟩]) : sProp 𝕄)
      = oLoc d ↦[oRowSet (nL L)]{fullShare} gath m d := by
  refine pointsTo_congr fun i hi => ?_
  rw [← set_oRowK] at hi
  obtain ⟨x, -, rfl⟩ := Finset.mem_map.mp hi
  refine Eq.trans ?_ ((congrFun (View.read_writes_whole (oRowK L).view fo out) x).trans (hout x))
  exact ((View.read_apply _ _).trans (cast_eq _ _)).symm

set_option maxHeartbeats 1000000 in
/-- The task on vector subcore `(L 0, L 1)` of device `d`: the id fetch and its wait, the indirect gather and its wait,
    the write-out and its wait. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ taskPts m d (nL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L xV (Memref.isWhole_whole _) iV (Memref.isWhole_whole _) oV (Memref.isWhole_whole _)
            sV (Memref.isWhole_whole _) rV (Memref.isWhole_whole _) cc0_scratch2 cc0_scoped0 cc0_scoped1)
          fun _ => iprop(taskPts m d (nL L) (gath m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (q := xq (nL L)) (f := m (xLoc d)) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  have hN : ∀ h : S100000x128.Gathers 0 S32x128, ∑ j, ((rV).slice (S32x128.rowRect h.axis' j) (S32x128.stride_rowRect h.axis' j)).view.dmaCredit
      = (rV).view.dmaCredit := by decide +kernel
  iapply (SparseCore.wp_indirectGatherLocal countersEmb 𝒱₀ (V d (cV L) (jV L)) none (hg := gathers_S100000x128_S32x128) (default : HIx 1)
      (rV).view.dmaCredit (hN _) (by decide) (inb_of_pre m d L hpre fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := xq (nL L)) (f := m (xLoc d)) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iRowK (F := F) d L _)); iexact Hi'
    isplitl [Hx']; · iexact Hx'
    ihave Ho := (Entails.of_eq (pts_oRowK (F := F) d L _)) $$ Ho'
    iapply (Entails.of_eq (rows_gath m d L (m (oLoc d)) (tile_body.sl.dma0_1 m d L hpre fs fr) (fun x => by
      unfold tile_body.sl.dma0_1
      rw [View.read_write_univ]
      exact payload_apply m d L hpre _ (fun y => by
        rw [View.read_write_univ]; exact (View.read_apply _ _).trans (cast_eq _ _)) _ _ x)))
    iexact Ho
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.PI

end
-- ==== Proof.PI.Tasks.lean ====
/-
  The thirty-two tasks' obligation, and how the three arrays the SparseCore call names split into the tasks' operands and
  join again: the ids and the gathered array by rows, the table by shares.
-/
module

public import proofs.«01_k».proof.Proof.PI.Gather

@[expose] public section

noncomputable section

namespace Cert.Proof.PI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type} (m : (ℓ : Loc nD τ sig) → Buf (Elt F) ℓ) [FloatOps F]

local notation "𝕄" => MT nD τ sig (HIx 1) (Elt F) ℕ UU ℕ
local notation "iV" => (Memref.whole Cert.KernelIdeal.main_arg4_scv : Memref Cert.KernelIdeal.sig Kind.scVector Space.hbm Cert.KernelIdeal.S1024 EltTy.i32)
local notation "xV" => (Memref.whole Cert.KernelIdeal.main_arg17_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-- A SparseCore's operands are its tasks' operands. -/
theorem vecSplit : (K (F := F)).VecSplit' (P m) 0 := by
  intro d c
  show corePts m d (Fin.cast nCore_zero c) (m (oLoc d)) ⊢ |={Set.univ}=> iprop(corePts m d (Fin.cast nCore_zero c) (m (oLoc d))
      ∗ (corePts m d (Fin.cast nCore_zero c) (gath m d) -∗ corePts m d (Fin.cast nCore_zero c) (gath m d)))
  iintro H; imodintro
  isplitl [H]; · iexact H
  iintro H; iexact H

/-! ## The three arrays as the tasks' operands -/

omit [FloatOps F] in
theorem iRowSet_eq (i : Fin 32) : iRowSet i = (irow i).set := by
  show ((View.whole (main_arg4_scv : Ref sig .scVector)).slice (irow i)).set = _
  rw [View.set_slice]; exact Finset.map_refl
omit [FloatOps F] in
theorem oRowSet_eq (i : Fin 32) : oRowSet i = (orow i).set := by
  show ((View.whole (main_v0_scv : Ref sig .scVector)).slice (orow i)).set = _
  rw [View.set_slice]; exact Finset.map_refl
omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem iPts_rows (d : Dev nD) (f : Buf (Elt F) (iLoc d)) :
    (iLoc d ↦{fullShare} f : sProp 𝕄) = bigSep Finset.univ fun i : Fin 32 => iLoc d ↦[iRowSet i]{fullShare} f := by
  rw [← pointsTo_biUnion Finset.univ (ℓ := iLoc d) iRowSet irows_disjoint, irows_cover]; try rfl
omit [FloatOps F] in
theorem oPts_rows (d : Dev nD) (f : Buf (Elt F) (oLoc d)) :
    (oLoc d ↦{fullShare} f : sProp 𝕄) = bigSep Finset.univ fun i : Fin 32 => oLoc d ↦[oRowSet i]{fullShare} f := by
  rw [← pointsTo_biUnion Finset.univ (ℓ := oLoc d) oRowSet orows_disjoint, orows_cover]; try rfl
omit [FloatOps F] in
theorem xPts_shares (d : Dev nD) (f : Buf (Elt F) (xLoc d)) :
    (xLoc d ↦{fullShare} f : sProp 𝕄) = bigSep Finset.univ fun i : Fin 32 => xLoc d ↦{xq i} f :=
  pointsTo_leaves Finset.univ f 5 fullShare

/-- SparseCore and subcore to task number. -/
def numEquiv : Fin 2 × Fin 16 ≃ Fin 32 := (Equiv.prodComm _ _).trans finProdFinEquiv
theorem numEquiv_apply (c : Fin 2) (s : Fin 16) : numEquiv (c, s) = num c s :=
  Fin.ext (by show c.val + 2 * s.val = 2 * s.val + c.val; omega)

/-- The operands of both SparseCores are the three arrays whole. -/
theorem cores_eq (d : Dev nD) (f : Buf (Elt F) (oLoc d)) :
    (bigSep Finset.univ fun c : Fin ((K (F := F)).nCore 0) => corePts m d (Fin.cast nCore_zero c) f)
      = iprop(iPts m d ∗ xPts m d ∗ oPts d f) := by
  have h1 : (bigSep Finset.univ fun i : Fin 32 => taskPts m d i f) = iprop(iPts m d ∗ xPts m d ∗ oPts d f) := by
    unfold taskPts iRowPts xShPts oRowPts
    rw [bigSep_sep', bigSep_sep', ← iPts_rows, ← xPts_shares, ← oPts_rows]
  rw [← h1, bigSep_univ_equiv numEquiv, bigSep_univ_prod]
  refine bigSep_congr fun c _ => bigSep_congr fun s _ => ?_
  rw [numEquiv_apply]; rfl

theorem st0_eq (d : Dev nD) : (bigSep Finset.univ fun c : Fin ((K (F := F)).nCore 0) => (P m).st 0 d c) = iprop(iPts m d ∗ xPts m d ∗ oPts d (m (oLoc d))) :=
  cores_eq m d _
theorem dn0_eq (d : Dev nD) : (bigSep Finset.univ fun c : Fin ((K (F := F)).nCore 0) => (P m).dn 0 d c) = iprop(iPts m d ∗ xPts m d ∗ oPts d (gath m d)) :=
  cores_eq m d _

end Cert.Proof.PI

end
-- ==== Proof.PI.Body.lean ====
/-
  The TensorCore kernel's body at one grid point: on whole staging buffers holding the inputs' blocks it runs to the end,
  the inputs' buffers as they were and the output's buffer at `outv` of them.
-/
module

public import proofs.«01_k».proof.Proof.PI.Gather
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.VecWindow

@[expose] public section

set_option maxRecDepth 16384

noncomputable section

namespace Cert.Proof.PI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- What the body stores in its output block, of the seventeen input blocks. -/
def outv (x0 : Vec F S3200x128 .f32) (x1 : Vec F S3200x4 .i32) (x2 : Vec F S3200x8 .f32) (x3 : Vec F S16x16 .f32) (x4 : Vec F S16x128 .f32) (x5 : Vec F S88x16 .f32) (x6 : Vec F S16x128 .f32) (x7 : Vec F S1x128 .f32) (x8 : Vec F S16x128 .f32) (x9 : Vec F S1x128 .f32) (x10 : Vec F S8x128 .f32) (x11 : Vec F S1x128 .f32) (x12 : Vec F S128x128 .f32) (x13 : Vec F S1x128 .f32) (x14 : Vec F S1x128 .f32) (x15 : Vec F S1x128 .f32) (x16 : Vec F S4 .f32) : Vec F S3200x128 .f32 :=
  k1_pay1 (x16 (ix1 (n := 4) 0)) (x16 (ix1 (n := 4) 2)) (k1_pay7 x2 x10 x11 x12 x13)
    (k1_pay8 (x16 (ix1 (n := 4) 0)) (x16 (ix1 (n := 4) 1)) (x16 (ix1 (n := 4) 3))
      (k1_pay5 (iota .tc S3200x128 32 [1] iota_S3200x128_d1_w32) (k1_pay3 x1) (k1_pay4 x1) 63#32) (k1_pay6 x5 x6) x3 x8 x9 x4 x0)
    x7 x14 x15

set_option maxHeartbeats 2000000 in
/-- The body's run. -/
theorem bodyRun (c : Dev nD) (i : grid1.Coords) (a0 : Memref sig .tc .vmem S3200x128 .f32) (w0 : a0.IsWhole) (a1 : Memref sig .tc .vmem S3200x4 .i32) (w1 : a1.IsWhole) (a2 : Memref sig .tc .vmem S3200x8 .f32) (w2 : a2.IsWhole) (a3 : Memref sig .tc .vmem S16x16 .f32) (w3 : a3.IsWhole) (a4 : Memref sig .tc .vmem S16x128 .f32) (w4 : a4.IsWhole) (a5 : Memref sig .tc .vmem S88x16 .f32) (w5 : a5.IsWhole) (a6 : Memref sig .tc .vmem S16x128 .f32) (w6 : a6.IsWhole) (a7 : Memref sig .tc .vmem S1x128 .f32) (w7 : a7.IsWhole) (a8 : Memref sig .tc .vmem S16x128 .f32) (w8 : a8.IsWhole) (a9 : Memref sig .tc .vmem S1x128 .f32) (w9 : a9.IsWhole) (a10 : Memref sig .tc .vmem S8x128 .f32) (w10 : a10.IsWhole) (a11 : Memref sig .tc .vmem S1x128 .f32) (w11 : a11.IsWhole) (a12 : Memref sig .tc .vmem S128x128 .f32) (w12 : a12.IsWhole) (a13 : Memref sig .tc .vmem S1x128 .f32) (w13 : a13.IsWhole) (a14 : Memref sig .tc .vmem S1x128 .f32) (w14 : a14.IsWhole) (a15 : Memref sig .tc .vmem S1x128 .f32) (w15 : a15.IsWhole) (a16 : Memref sig .tc .smem S4 .f32) (w16 : a16.IsWhole) (a17 : Memref sig .tc .vmem S3200x128 .f32) (w17 : a17.IsWhole)
    (x0 : Vec F S3200x128 .f32) (x1 : Vec F S3200x4 .i32) (x2 : Vec F S3200x8 .f32) (x3 : Vec F S16x16 .f32) (x4 : Vec F S16x128 .f32) (x5 : Vec F S88x16 .f32) (x6 : Vec F S16x128 .f32) (x7 : Vec F S1x128 .f32) (x8 : Vec F S16x128 .f32) (x9 : Vec F S1x128 .f32) (x10 : Vec F S8x128 .f32) (x11 : Vec F S1x128 .f32) (x12 : Vec F S128x128 .f32) (x13 : Vec F S1x128 .f32) (x14 : Vec F S1x128 .f32) (x15 : Vec F S1x128 .f32) (x16 : Vec F S4 .f32) (E : Set ℕ) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ (∃ d, owns (c : Thread nD τ) a17 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare (outv x0 x1 x2 x3 x4 x5 x6 x7 x8 x9 x10 x11 x12 x13 x14 x15 x16)) -∗ Q ⟨⟩))
      ⊢ wp frame (wpE (defs₀ (F := F)) 𝒱₀ c none) E (cc1__tc_body i a0 w0 a1 w1 a2 w2 a3 w3 a4 w4 a5 w5 a6 w6 a7 w7 a8 w8 a9 w9 a10 w10 a11 w11 a12 w12 a13 w13 a14 w14 a15 w15 a16 w16 a17 w17) Q := by
  simp only [cc1__tc_body_eq_skeleton]; unfold cc1__tc_body_skel
  simp only [k1_part1_eq_skeleton, k1_part2_eq_skeleton, k1_part3_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%d, %f17, -, H17⟩, Hk⟩
  obtain rfl := w0.eq_unread e0; obtain rfl := w1.eq_unread e1; obtain rfl := w2.eq_unread e2; obtain rfl := w3.eq_unread e3; obtain rfl := w4.eq_unread e4; obtain rfl := w5.eq_unread e5; obtain rfl := w6.eq_unread e6; obtain rfl := w7.eq_unread e7; obtain rfl := w8.eq_unread e8; obtain rfl := w9.eq_unread e9; obtain rfl := w10.eq_unread e10; obtain rfl := w11.eq_unread e11; obtain rfl := w12.eq_unread e12; obtain rfl := w13.eq_unread e13; obtain rfl := w14.eq_unread e14; obtain rfl := w15.eq_unread e15; obtain rfl := w16.eq_unread e16
  sl_exec
  sl_step
  iapply Hk
  isplitl [H0]
  · iexists _; isplitr; · ipureintro; exact w0.read_unread _
    iexact H0
  isplitl [H1]
  · iexists _; isplitr; · ipureintro; exact w1.read_unread _
    iexact H1
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; · ipureintro; exact w5.read_unread _
    iexact H5
  isplitl [H6]
  · iexists _; isplitr; · ipureintro; exact w6.read_unread _
    iexact H6
  isplitl [H7]
  · iexists _; isplitr; · ipureintro; exact w7.read_unread _
    iexact H7
  isplitl [H8]
  · iexists _; isplitr; · ipureintro; exact w8.read_unread _
    iexact H8
  isplitl [H9]
  · iexists _; isplitr; · ipureintro; exact w9.read_unread _
    iexact H9
  isplitl [H10]
  · iexists _; isplitr; · ipureintro; exact w10.read_unread _
    iexact H10
  isplitl [H11]
  · iexists _; isplitr; · ipureintro; exact w11.read_unread _
    iexact H11
  isplitl [H12]
  · iexists _; isplitr; · ipureintro; exact w12.read_unread _
    iexact H12
  isplitl [H13]
  · iexists _; isplitr; · ipureintro; exact w13.read_unread _
    iexact H13
  isplitl [H14]
  · iexists _; isplitr; · ipureintro; exact w14.read_unread _
    iexact H14
  isplitl [H15]
  · iexists _; isplitr; · ipureintro; exact w15.read_unread _
    iexact H15
  isplitl [H16]
  · iexists _; isplitr; · ipureintro; exact w16.read_unread _
    iexact H16
  iexists _; isplitr; swap; · iexact H17
  ipureintro
  refine (View.read_writes_full a17.view f17 inb_S3200x128_S3200x128_0_0 _ []).trans ?_
  unfold outv
  have h0 : View.readAt (Elt F) a0.view (Rect.unit (s := S3200x128) ![0, 0] ![3200, 128] inb_S3200x128_S3200x128_0_0).toLoadRect (w0.unread x0) = x0 :=
    (View.readAt_full a0.view _ inb_S3200x128_S3200x128_0_0).trans (w0.read_unread x0)
  have h1 : View.readAt (Elt F) a1.view (Rect.unit (s := S3200x4) ![0, 0] ![3200, 4] inb_S3200x4_S3200x4_0_0).toLoadRect (w1.unread x1) = x1 :=
    (View.readAt_full a1.view _ inb_S3200x4_S3200x4_0_0).trans (w1.read_unread x1)
  have h2 : View.readAt (Elt F) a2.view (Rect.unit (s := S3200x8) ![0, 0] ![3200, 8] inb_S3200x8_S3200x8_0_0).toLoadRect (w2.unread x2) = x2 :=
    (View.readAt_full a2.view _ inb_S3200x8_S3200x8_0_0).trans (w2.read_unread x2)
  have h3 : View.readAt (Elt F) a3.view (Rect.unit (s := S16x16) ![0, 0] ![16, 16] inb_S16x16_S16x16_0_0).toLoadRect (w3.unread x3) = x3 :=
    (View.readAt_full a3.view _ inb_S16x16_S16x16_0_0).trans (w3.read_unread x3)
  have h4 : View.readAt (Elt F) a4.view (Rect.unit (s := S16x128) ![0, 0] ![16, 128] inb_S16x128_S16x128_0_0).toLoadRect (w4.unread x4) = x4 :=
    (View.readAt_full a4.view _ inb_S16x128_S16x128_0_0).trans (w4.read_unread x4)
  have h5 : View.readAt (Elt F) a5.view (Rect.unit (s := S88x16) ![0, 0] ![88, 16] inb_S88x16_S88x16_0_0).toLoadRect (w5.unread x5) = x5 :=
    (View.readAt_full a5.view _ inb_S88x16_S88x16_0_0).trans (w5.read_unread x5)
  have h6 : View.readAt (Elt F) a6.view (Rect.unit (s := S16x128) ![0, 0] ![16, 128] inb_S16x128_S16x128_0_0).toLoadRect (w6.unread x6) = x6 :=
    (View.readAt_full a6.view _ inb_S16x128_S16x128_0_0).trans (w6.read_unread x6)
  have h7 : View.readAt (Elt F) a7.view (Rect.unit (s := S1x128) ![0, 0] ![1, 128] inb_S1x128_S1x128_0_0).toLoadRect (w7.unread x7) = x7 :=
    (View.readAt_full a7.view _ inb_S1x128_S1x128_0_0).trans (w7.read_unread x7)
  have h8 : View.readAt (Elt F) a8.view (Rect.unit (s := S16x128) ![0, 0] ![16, 128] inb_S16x128_S16x128_0_0).toLoadRect (w8.unread x8) = x8 :=
    (View.readAt_full a8.view _ inb_S16x128_S16x128_0_0).trans (w8.read_unread x8)
  have h9 : View.readAt (Elt F) a9.view (Rect.unit (s := S1x128) ![0, 0] ![1, 128] inb_S1x128_S1x128_0_0).toLoadRect (w9.unread x9) = x9 :=
    (View.readAt_full a9.view _ inb_S1x128_S1x128_0_0).trans (w9.read_unread x9)
  have h10 : View.readAt (Elt F) a10.view (Rect.unit (s := S8x128) ![0, 0] ![8, 128] inb_S8x128_S8x128_0_0).toLoadRect (w10.unread x10) = x10 :=
    (View.readAt_full a10.view _ inb_S8x128_S8x128_0_0).trans (w10.read_unread x10)
  have h11 : View.readAt (Elt F) a11.view (Rect.unit (s := S1x128) ![0, 0] ![1, 128] inb_S1x128_S1x128_0_0).toLoadRect (w11.unread x11) = x11 :=
    (View.readAt_full a11.view _ inb_S1x128_S1x128_0_0).trans (w11.read_unread x11)
  have h12 : View.readAt (Elt F) a12.view (Rect.unit (s := S128x128) ![0, 0] ![128, 128] inb_S128x128_S128x128_0_0).toLoadRect (w12.unread x12) = x12 :=
    (View.readAt_full a12.view _ inb_S128x128_S128x128_0_0).trans (w12.read_unread x12)
  have h13 : View.readAt (Elt F) a13.view (Rect.unit (s := S1x128) ![0, 0] ![1, 128] inb_S1x128_S1x128_0_0).toLoadRect (w13.unread x13) = x13 :=
    (View.readAt_full a13.view _ inb_S1x128_S1x128_0_0).trans (w13.read_unread x13)
  have h14 : View.readAt (Elt F) a14.view (Rect.unit (s := S1x128) ![0, 0] ![1, 128] inb_S1x128_S1x128_0_0).toLoadRect (w14.unread x14) = x14 :=
    (View.readAt_full a14.view _ inb_S1x128_S1x128_0_0).trans (w14.read_unread x14)
  have h15 : View.readAt (Elt F) a15.view (Rect.unit (s := S1x128) ![0, 0] ![1, 128] inb_S1x128_S1x128_0_0).toLoadRect (w15.unread x15) = x15 :=
    (View.readAt_full a15.view _ inb_S1x128_S1x128_0_0).trans (w15.read_unread x15)

  have s0 : bodyRun.sl.r c a16 w16 x16 = x16 (ix1 (n := 4) 0) := by
    delta bodyRun.sl.r
    refine (congrFun (w16.read_unread x16) _).trans (congrArg x16 (funext fun a => ?_))
    fin_cases a; rfl
  have s1 : bodyRun.sl.r_1 c a16 w16 x16 = x16 (ix1 (n := 4) 1) := by
    delta bodyRun.sl.r_1
    refine (congrFun (w16.read_unread x16) _).trans (congrArg x16 (funext fun a => ?_))
    fin_cases a; rfl
  have s2 : bodyRun.sl.r_2 c a16 w16 x16 = x16 (ix1 (n := 4) 2) := by
    delta bodyRun.sl.r_2
    refine (congrFun (w16.read_unread x16) _).trans (congrArg x16 (funext fun a => ?_))
    fin_cases a; rfl
  have s3 : bodyRun.sl.r_3 c a16 w16 x16 = x16 (ix1 (n := 4) 3) := by
    delta bodyRun.sl.r_3
    refine (congrFun (w16.read_unread x16) _).trans (congrArg x16 (funext fun a => ?_))
    fin_cases a; rfl
  rw [s0, s2]
  delta bodyRun.sl.r_11 bodyRun.sl.r_10 bodyRun.sl.r_9 bodyRun.sl.r_8 bodyRun.sl.r_7 bodyRun.sl.r_6
  rw [s0, s1, s3]
  delta bodyRun.sl.r_5 bodyRun.sl.r_4
  rw [h0, h1, h2, h3, h4, h5, h6, h7, h8, h9, h10, h11, h12, h13, h14, h15]
  delta bodyRun.sl.v6
  try rfl

end Cert.Proof.PI

end
-- ==== Proof.PI.Region.lean ====
/-
  The TensorCore region of @main: the contents of every buffer along @main, the pipeline's proof data with the output's
  contents named, the body obligation and the region's segment.
-/
module

public import proofs.«01_k».proof.Proof.PI.Body
public import Idealize.ShloMosaic.Lib.Pipeline.FrameTail
public import Idealize.ShloMosaic.Lib.Pipeline.RegionsLoop
public import Idealize.ShloMosaic.Lib.Pipeline.RegionsOwned

@[expose] public section

set_option maxRecDepth 16384

noncomputable section

namespace Cert.Proof.PI

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx

variable {F : FTy → Type} [FloatOps F]

local notation "𝕄" => MT nD τ sig (HIx 1) (Elt F) ℕ UU ℕ

/-- The host operations between the gather and the region. -/
def opsA : List (HloOp τ sig (Elt F)) :=
  [StableHlo.nullary main_cst (constant S_ .f32 0x00000000#32),
   StableHlo.unary main_cst main_v1 (broadcastInDim S88x16 ![] bcast_S_S88x16 : (⟨S_, .f32⟩ : BufTy).Contents (Elt F) → (⟨S88x16, .f32⟩ : BufTy).Contents (Elt F)),
   StableHlo.nullary main_c (constantI S_ 32 0#32),
   StableHlo.unary main_c main_v2 (broadcastInDim S1 ![] bcast_S_S1 : (⟨S_, .i32⟩ : BufTy).Contents (Elt F) → (⟨S1, .i32⟩ : BufTy).Contents (Elt F)),
   StableHlo.nullary main_c_0 (constantI S_ 32 0#32),
   StableHlo.unary main_c_0 main_v3 (broadcastInDim S1 ![] bcast_S_S1 : (⟨S_, .i32⟩ : BufTy).Contents (Elt F) → (⟨S1, .i32⟩ : BufTy).Contents (Elt F)),
   StableHlo.binary main_v2 main_v3 main_v4 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v1 main_v4 main_arg5 main_v5 ((fun x i u => Host.scatter scatter_S88x16_S2_S20x4_01_n_01_0 (fun _ b => b) x i u) : (⟨S88x16, .f32⟩ : BufTy).Contents (Elt F) → (⟨S2, .i32⟩ : BufTy).Contents (Elt F) → (⟨S20x4, .f32⟩ : BufTy).Contents (Elt F) → (⟨S88x16, .f32⟩ : BufTy).Contents (Elt F)),
   StableHlo.nullary main_c_1 (constantI S_ 32 20#32),
   StableHlo.unary main_c_1 main_v6 (broadcastInDim S1 ![] bcast_S_S1 : (⟨S_, .i32⟩ : BufTy).Contents (Elt F) → (⟨S1, .i32⟩ : BufTy).Contents (Elt F)),
   StableHlo.nullary main_c_2 (constantI S_ 32 4#32),
   StableHlo.unary main_c_2 main_v7 (broadcastInDim S1 ![] bcast_S_S1 : (⟨S_, .i32⟩ : BufTy).Contents (Elt F) → (⟨S1, .i32⟩ : BufTy).Contents (Elt F)),
   StableHlo.binary main_v6 main_v7 main_v8 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v5 main_v8 main_arg6 main_v9 ((fun x i u => Host.scatter scatter_S88x16_S2_S12x4_01_n_01_0 (fun _ b => b) x i u) : (⟨S88x16, .f32⟩ : BufTy).Contents (Elt F) → (⟨S2, .i32⟩ : BufTy).Contents (Elt F) → (⟨S12x4, .f32⟩ : BufTy).Contents (Elt F) → (⟨S88x16, .f32⟩ : BufTy).Contents (Elt F)),
   StableHlo.nullary main_c_3 (constantI S_ 32 32#32),
   StableHlo.unary main_c_3 main_v10 (broadcastInDim S1 ![] bcast_S_S1 : (⟨S_, .i32⟩ : BufTy).Contents (Elt F) → (⟨S1, .i32⟩ : BufTy).Contents (Elt F)),
   StableHlo.nullary main_c_4 (constantI S_ 32 8#32),
   StableHlo.unary main_c_4 main_v11 (broadcastInDim S1 ![] bcast_S_S1 : (⟨S_, .i32⟩ : BufTy).Contents (Elt F) → (⟨S1, .i32⟩ : BufTy).Contents (Elt F)),
   StableHlo.binary main_v10 main_v11 main_v12 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v9 main_v12 main_arg7 main_v13 ((fun x i u => Host.scatter scatter_S88x16_S2_S31x4_01_n_01_0 (fun _ b => b) x i u) : (⟨S88x16, .f32⟩ : BufTy).Contents (Elt F) → (⟨S2, .i32⟩ : BufTy).Contents (Elt F) → (⟨S31x4, .f32⟩ : BufTy).Contents (Elt F) → (⟨S88x16, .f32⟩ : BufTy).Contents (Elt F)),
   StableHlo.nullary main_c_5 (constantI S_ 32 63#32),
   StableHlo.unary main_c_5 main_v14 (broadcastInDim S1 ![] bcast_S_S1 : (⟨S_, .i32⟩ : BufTy).Contents (Elt F) → (⟨S1, .i32⟩ : BufTy).Contents (Elt F)),
   StableHlo.nullary main_c_6 (constantI S_ 32 12#32),
   StableHlo.unary main_c_6 main_v15 (broadcastInDim S1 ![] bcast_S_S1 : (⟨S_, .i32⟩ : BufTy).Contents (Elt F) → (⟨S1, .i32⟩ : BufTy).Contents (Elt F)),
   StableHlo.binary main_v14 main_v15 main_v16 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.ternary main_v13 main_v16 main_arg8 main_v17 ((fun x i u => Host.scatter scatter_S88x16_S2_S24x4_01_n_01_0 (fun _ b => b) x i u) : (⟨S88x16, .f32⟩ : BufTy).Contents (Elt F) → (⟨S2, .i32⟩ : BufTy).Contents (Elt F) → (⟨S24x4, .f32⟩ : BufTy).Contents (Elt F) → (⟨S88x16, .f32⟩ : BufTy).Contents (Elt F)),
   StableHlo.reshape main_arg0 main_v18 (rfl : (.f32 : EltTy) = .f32) shapeCasts_S1024x200x128_S204800x128,
   StableHlo.reshape main_arg1 main_v19 (rfl : (.i32 : EltTy) = .i32) shapeCasts_S1024x200x4_S204800x4,
   StableHlo.reshape main_arg3 main_v20 (rfl : (.f32 : EltTy) = .f32) shapeCasts_S1024x200x8_S204800x8,
   StableHlo.unary main_arg18 main_v21 (broadcastInDim S1 ![] bcast_S_S1 : (⟨S_, .f32⟩ : BufTy).Contents (Elt F) → (⟨S1, .f32⟩ : BufTy).Contents (Elt F)),
   StableHlo.unary main_arg19 main_v22 (broadcastInDim S1 ![] bcast_S_S1 : (⟨S_, .f32⟩ : BufTy).Contents (Elt F) → (⟨S1, .f32⟩ : BufTy).Contents (Elt F)),
   StableHlo.unary main_arg20 main_v23 (broadcastInDim S1 ![] bcast_S_S1 : (⟨S_, .f32⟩ : BufTy).Contents (Elt F) → (⟨S1, .f32⟩ : BufTy).Contents (Elt F)),
   StableHlo.unary main_arg21 main_v24 (broadcastInDim S1 ![] bcast_S_S1 : (⟨S_, .f32⟩ : BufTy).Contents (Elt F) → (⟨S1, .f32⟩ : BufTy).Contents (Elt F)),
   StableHlo.nary ![main_v21, main_v22, main_v23, main_v24] main_v25 (fun u => (concatenate S4 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩] concatenates_S1_S1_S1_S1_S4_d0 : (⟨S4, .f32⟩ : BufTy).Contents (Elt F))),
   StableHlo.reshape main_arg10 main_v26 (rfl : (.f32 : EltTy) = .f32) shapeCasts_S128_S1x128,
   StableHlo.reshape main_arg12 main_v27 (rfl : (.f32 : EltTy) = .f32) shapeCasts_S128_S1x128,
   StableHlo.reshape main_arg14 main_v28 (rfl : (.f32 : EltTy) = .f32) shapeCasts_S128_S1x128,
   StableHlo.reshape main_arg16 main_v29 (rfl : (.f32 : EltTy) = .f32) shapeCasts_S128_S1x128,
   StableHlo.reshape main_arg22 main_v30 (rfl : (.f32 : EltTy) = .f32) shapeCasts_S128_S1x128,
   StableHlo.reshape main_arg23 main_v31 (rfl : (.f32 : EltTy) = .f32) shapeCasts_S128_S1x128]
/-- The host operation after the region. -/
def opsB : List (HloOp τ sig (Elt F)) := [StableHlo.reshape main_v32 main_v33 (rfl : (.f32 : EltTy) = .f32) shapeCasts_S204800x128_S1024x200x128]

theorem opsA_tc : (opsA : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.unary_bufs_sub .., StableHlo.binary_bufs_sub .., StableHlo.ternary_bufs_sub .., StableHlo.reshape_bufs_sub .., StableHlo.reshape_bufs_sub .., StableHlo.reshape_bufs_sub .., StableHlo.unary_bufs_sub .., StableHlo.unary_bufs_sub .., StableHlo.unary_bufs_sub .., StableHlo.unary_bufs_sub .., StableHlo.nary_bufs_sub .., StableHlo.reshape_bufs_sub .., StableHlo.reshape_bufs_sub .., StableHlo.reshape_bufs_sub .., StableHlo.reshape_bufs_sub .., StableHlo.reshape_bufs_sub .., StableHlo.reshape_bufs_sub ..⟩
theorem opsA_sub : ∀ op ∈ (opsA : List (HloOp τ sig (Elt F))), op.bufs ⊆ Pipeline.ucRefs τ sig := fun op h =>
  Pipeline.sub_ucRefs op ((List.forall_iff_forall_mem.mp opsA_tc) op h)
theorem opsB_tc : (opsB : List (HloOp τ sig (Elt F))).Forall fun op => op.bufs ⊆ StableHlo.tcRefs τ sig :=
  StableHlo.reshape_bufs_sub ..
theorem opsB_sub : ∀ op ∈ (opsB : List (HloOp τ sig (Elt F))), op.bufs ⊆ Pipeline.ucRefs τ sig := fun op h =>
  Pipeline.sub_ucRefs op ((List.forall_iff_forall_mem.mp opsB_tc) op h)
theorem opsA_fresh : ∀ op ∈ (opsA : List (HloOp τ sig (Elt F))), op.fresh = ∅ :=
  List.forall_iff_forall_mem.mp (by unfold opsA; simp only [List.Forall]; repeat' constructor)
theorem opsB_fresh : ∀ op ∈ (opsB : List (HloOp τ sig (Elt F))), op.fresh = ∅ :=
  List.forall_iff_forall_mem.mp (by exact rfl)

/-! ## The contents of every buffer along @main -/

variable (m : (ℓ : Loc nD τ sig) → Buf (Elt F) ℓ)

/-- After the gather. -/
def V0 (c : Dev nD) : Valuation τ sig (Elt F) :=
  Function.update (StableHlo.launchContents m c) (Proc.devRef .tc main_v0) (gath m c)
/-- At the region's entry. -/
def V1 (c : Dev nD) : Valuation τ sig (Elt F) := StableHlo.after opsA (V0 m c)

/-- Window `w`'s block at point `t`, of its array at the region's entry. -/
def iblk (c : Dev nD) (w : Fin cfg1.W) (t : Fin cfg1.N) : ((cfg1.win w).xblock (cfg1.grid.coords t)).Idx → Elt F (cfg1.win w).elt :=
  ((cfg1.win w).blk t).view.read (Elt F) (V1 m c (Proc.devRef .tc (Pipeline.arrRef spec1 w)))

/-- What the body leaves in the output's block at point `t`. -/
def oblk (c : Dev nD) (t : Fin cfg1.N) : Vec F S3200x128 .f32 :=
  outv (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- What the body may use at every point and need not describe: the scratch of the core and its generator register. -/
def ΦR (c : Dev nD) : sProp 𝕄 :=
  iprop(Pipeline.scopedRest (Ix := HIx 1) (Name := ℕ) (U := UU) (Lvl := ℕ) (Val := Elt F) spec1 c ∗ ∃ r, prngReg c r)

/-- The proof data of the one pipeline. -/
def dats (_ : Fin 1) (c : Dev nD) : Dat τ (Elt F) (HIx 1) ℕ UU ℕ cfg1 c where
  A w := V1 m c (Proc.devRef .tc (Pipeline.arrRef spec1 w))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => oblk m c t
    | ⟨_ + 18, h⟩ => absurd h (Nat.not_lt.2 (Nat.le_add_left _ _))
  Φ _ := ΦR c
  q _ := fullShare
  owed _ := 0
  recorded _ := {p | (K (F := F)).lev (T c, p.1) p.2 ≤ 8 * SparseCore.Cfg.Blocks.fst (Q := 1) (N := 1) 1}

theorem A_eq (c : Dev nD) (w : Fin cfg1.W) : (dats m 0 c).A w = V1 m c (Proc.devRef .tc (Pipeline.arrRef spec1 w)) := by
  dsimp only [dats]
theorem after_0 (c : Dev nD) (t : Fin cfg1.N) : (dats m 0 c).after 0 t = iblk m c 0 t := by dsimp only [dats]
theorem after_1 (c : Dev nD) (t : Fin cfg1.N) : (dats m 0 c).after 1 t = iblk m c 1 t := by dsimp only [dats]
theorem after_2 (c : Dev nD) (t : Fin cfg1.N) : (dats m 0 c).after 2 t = iblk m c 2 t := by dsimp only [dats]
theorem after_3 (c : Dev nD) (t : Fin cfg1.N) : (dats m 0 c).after 3 t = iblk m c 3 t := by dsimp only [dats]
theorem after_4 (c : Dev nD) (t : Fin cfg1.N) : (dats m 0 c).after 4 t = iblk m c 4 t := by dsimp only [dats]
theorem after_5 (c : Dev nD) (t : Fin cfg1.N) : (dats m 0 c).after 5 t = iblk m c 5 t := by dsimp only [dats]
theorem after_6 (c : Dev nD) (t : Fin cfg1.N) : (dats m 0 c).after 6 t = iblk m c 6 t := by dsimp only [dats]
theorem after_7 (c : Dev nD) (t : Fin cfg1.N) : (dats m 0 c).after 7 t = iblk m c 7 t := by dsimp only [dats]
theorem after_8 (c : Dev nD) (t : Fin cfg1.N) : (dats m 0 c).after 8 t = iblk m c 8 t := by dsimp only [dats]
theorem after_9 (c : Dev nD) (t : Fin cfg1.N) : (dats m 0 c).after 9 t = iblk m c 9 t := by dsimp only [dats]
theorem after_10 (c : Dev nD) (t : Fin cfg1.N) : (dats m 0 c).after 10 t = iblk m c 10 t := by dsimp only [dats]
theorem after_11 (c : Dev nD) (t : Fin cfg1.N) : (dats m 0 c).after 11 t = iblk m c 11 t := by dsimp only [dats]
theorem after_12 (c : Dev nD) (t : Fin cfg1.N) : (dats m 0 c).after 12 t = iblk m c 12 t := by dsimp only [dats]
theorem after_13 (c : Dev nD) (t : Fin cfg1.N) : (dats m 0 c).after 13 t = iblk m c 13 t := by dsimp only [dats]
theorem after_14 (c : Dev nD) (t : Fin cfg1.N) : (dats m 0 c).after 14 t = iblk m c 14 t := by dsimp only [dats]
theorem after_15 (c : Dev nD) (t : Fin cfg1.N) : (dats m 0 c).after 15 t = iblk m c 15 t := by dsimp only [dats]
theorem after_16 (c : Dev nD) (t : Fin cfg1.N) : (dats m 0 c).after 16 t = iblk m c 16 t := by dsimp only [dats]
theorem after_17 (c : Dev nD) (t : Fin cfg1.N) : (dats m 0 c).after 17 t = oblk m c t := by dsimp only [dats]

theorem before_0 (c : Dev nD) (t : Fin cfg1.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg1.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg1.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg1.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg1.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg1.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg1.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)
theorem before_12 (c : Dev nD) (t : Fin cfg1.N) (d) : (dats m 0 c).before 12 t d = iblk m c 12 t :=
  ((dats m 0 c).before_in_eq_fetched 12 rfl (fun _ => rfl) (fun _ _ _ => rfl)
    (fun t => by rw [after_12]; unfold Dat.blockOf iblk; rw [A_eq]; try rfl) t d).trans
    (by unfold Dat.fetched Dat.blockOf iblk; rw [A_eq]; try rfl)
theorem before_13 (c : Dev nD) (t : Fin cfg1.N) (d) : (dats m 0 c).before 13 t d = iblk m c 13 t :=
  ((dats m 0 c).before_in_eq_fetched 13 rfl (fun _ => rfl) (fun _ _ _ => rfl)
    (fun t => by rw [after_13]; unfold Dat.blockOf iblk; rw [A_eq]; try rfl) t d).trans
    (by unfold Dat.fetched Dat.blockOf iblk; rw [A_eq]; try rfl)
theorem before_14 (c : Dev nD) (t : Fin cfg1.N) (d) : (dats m 0 c).before 14 t d = iblk m c 14 t :=
  ((dats m 0 c).before_in_eq_fetched 14 rfl (fun _ => rfl) (fun _ _ _ => rfl)
    (fun t => by rw [after_14]; unfold Dat.blockOf iblk; rw [A_eq]; try rfl) t d).trans
    (by unfold Dat.fetched Dat.blockOf iblk; rw [A_eq]; try rfl)
theorem before_15 (c : Dev nD) (t : Fin cfg1.N) (d) : (dats m 0 c).before 15 t d = iblk m c 15 t :=
  ((dats m 0 c).before_in_eq_fetched 15 rfl (fun _ => rfl) (fun _ _ _ => rfl)
    (fun t => by rw [after_15]; unfold Dat.blockOf iblk; rw [A_eq]; try rfl) t d).trans
    (by unfold Dat.fetched Dat.blockOf iblk; rw [A_eq]; try rfl)
theorem before_16 (c : Dev nD) (t : Fin cfg1.N) (d) : (dats m 0 c).before 16 t d = iblk m c 16 t :=
  ((dats m 0 c).before_in_eq_fetched 16 rfl (fun _ => rfl) (fun _ _ _ => rfl)
    (fun t => by rw [after_16]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg1.N) : sProp 𝕄 :=
  iprop((dats m 0 c).Φ t.castSucc ∗ (dats m 0 c).owesAt none t.castSucc
    ∗ (∃ d, owns (c : Thread nD τ) (st1_0 t) fullShare ((dats m 0 c).before 0 t d))
    ∗ (∃ d, owns (c : Thread nD τ) (st1_1 t) fullShare ((dats m 0 c).before 1 t d))
    ∗ (∃ d, owns (c : Thread nD τ) (st1_2 t) fullShare ((dats m 0 c).before 2 t d))
    ∗ (∃ d, owns (c : Thread nD τ) (st1_3 t) fullShare ((dats m 0 c).before 3 t d))
    ∗ (∃ d, owns (c : Thread nD τ) (st1_4 t) fullShare ((dats m 0 c).before 4 t d))
    ∗ (∃ d, owns (c : Thread nD τ) (st1_5 t) fullShare ((dats m 0 c).before 5 t d))
    ∗ (∃ d, owns (c : Thread nD τ) (st1_6 t) fullShare ((dats m 0 c).before 6 t d))
    ∗ (∃ d, owns (c : Thread nD τ) (st1_7 t) fullShare ((dats m 0 c).before 7 t d))
    ∗ (∃ d, owns (c : Thread nD τ) (st1_8 t) fullShare ((dats m 0 c).before 8 t d))
    ∗ (∃ d, owns (c : Thread nD τ) (st1_9 t) fullShare ((dats m 0 c).before 9 t d))
    ∗ (∃ d, owns (c : Thread nD τ) (st1_10 t) fullShare ((dats m 0 c).before 10 t d))
    ∗ (∃ d, owns (c : Thread nD τ) (st1_11 t) fullShare ((dats m 0 c).before 11 t d))
    ∗ (∃ d, owns (c : Thread nD τ) (st1_12 t) fullShare ((dats m 0 c).before 12 t d))
    ∗ (∃ d, owns (c : Thread nD τ) (st1_13 t) fullShare ((dats m 0 c).before 13 t d))
    ∗ (∃ d, owns (c : Thread nD τ) (st1_14 t) fullShare ((dats m 0 c).before 14 t d))
    ∗ (∃ d, owns (c : Thread nD τ) (st1_15 t) fullShare ((dats m 0 c).before 15 t d))
    ∗ (∃ d, owns (c : Thread nD τ) (st1_16 t) fullShare ((dats m 0 c).before 16 t d))
    ∗ (∃ d, owns (c : Thread nD τ) (st1_17 t) fullShare ((dats m 0 c).before 17 t d)))
/-- and what it returns. -/
def bodyPost (c : Dev nD) (t : Fin cfg1.N) : sProp 𝕄 :=
  iprop((dats m 0 c).Φ t.succ ∗ (dats m 0 c).owesAt none t.succ
    ∗ owns (c : Thread nD τ) (st1_0 t) fullShare ((dats m 0 c).after 0 t)
    ∗ owns (c : Thread nD τ) (st1_1 t) fullShare ((dats m 0 c).after 1 t)
    ∗ owns (c : Thread nD τ) (st1_2 t) fullShare ((dats m 0 c).after 2 t)
    ∗ owns (c : Thread nD τ) (st1_3 t) fullShare ((dats m 0 c).after 3 t)
    ∗ owns (c : Thread nD τ) (st1_4 t) fullShare ((dats m 0 c).after 4 t)
    ∗ owns (c : Thread nD τ) (st1_5 t) fullShare ((dats m 0 c).after 5 t)
    ∗ owns (c : Thread nD τ) (st1_6 t) fullShare ((dats m 0 c).after 6 t)
    ∗ owns (c : Thread nD τ) (st1_7 t) fullShare ((dats m 0 c).after 7 t)
    ∗ owns (c : Thread nD τ) (st1_8 t) fullShare ((dats m 0 c).after 8 t)
    ∗ owns (c : Thread nD τ) (st1_9 t) fullShare ((dats m 0 c).after 9 t)
    ∗ owns (c : Thread nD τ) (st1_10 t) fullShare ((dats m 0 c).after 10 t)
    ∗ owns (c : Thread nD τ) (st1_11 t) fullShare ((dats m 0 c).after 11 t)
    ∗ owns (c : Thread nD τ) (st1_12 t) fullShare ((dats m 0 c).after 12 t)
    ∗ owns (c : Thread nD τ) (st1_13 t) fullShare ((dats m 0 c).after 13 t)
    ∗ owns (c : Thread nD τ) (st1_14 t) fullShare ((dats m 0 c).after 14 t)
    ∗ owns (c : Thread nD τ) (st1_15 t) fullShare ((dats m 0 c).after 15 t)
    ∗ owns (c : Thread nD τ) (st1_16 t) fullShare ((dats m 0 c).after 16 t)
    ∗ owns (c : Thread nD τ) (st1_17 t) fullShare ((dats m 0 c).after 17 t))

set_option maxHeartbeats 1600000 in
/-- The body at any point. -/
theorem sound_body (c : Dev nD) (t : Fin cfg1.N) :
    bodyPre m c t ⊢ wp frame (wpE (defs₀ (F := F)) 𝒱₀ c none) Set.univ (bodyAt1 t) (fun _ => bodyPost m c t) := by
  unfold bodyPre bodyPost bodyAt1
  simp only [before_0, before_1, before_2, before_3, before_4, before_5, before_6, before_7, before_8, before_9, before_10, before_11, before_12, before_13, before_14, before_15, before_16]
  rw [show (dats m 0 c).Φ t.succ = (dats m 0 c).Φ t.castSucc from rfl,
    show (dats m 0 c).owesAt none t.succ = (dats m 0 c).owesAt none t.castSucc from rfl,
    after_0, after_1, after_2, after_3, after_4, after_5, after_6, after_7, after_8, after_9, after_10, after_11, after_12, after_13, after_14, after_15, after_16, after_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (bodyRun c (grid1.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row (t : Fin cfg1.N) :
    defs₀ (F := F) .tc cfg1.body (cfg1.bodyArgs t (cfg1.slots t)) = bodyAt1 t := by
  rfl

theorem body_obligation (c : Dev nD) : BodyObligation (dats (F := F) m 0 c) (defs₀ (F := F)) 𝒱₀ none Set.univ := fun t => by
  rw [bigSep_W1, bigSep_W1, defs₀_row]
  exact triple_restated (sound_body m c t) rfl .rfl fun _ => .rfl

/-! ## The segments of @main after the gather -/

/-- The pipeline's tables: none. -/
abbrev adm (p : Fin 1) : (pcfgs (F := F) p).Adm := (cfgs p).toPCfg_adm

/-- After the region. -/
def V2 (c : Dev nD) : Valuation τ sig (Elt F) := Pipeline.afterRegion (dats m 0 c) (V1 m c)
/-- At the end. -/
def V3 (c : Dev nD) : Valuation τ sig (Elt F) := StableHlo.after opsB (V2 m c)

variable (ρ : Dev nD → PrngReg)

/-- What rides beside the buffers up to the region, -/
abbrev R0 (c : Dev nD) : sProp 𝕄 :=
  iprop(prngReg c (ρ c) ∗ ∃ W, ⌜(K (F := F)).WBelow (T c) W (8 * SparseCore.Cfg.Blocks.fst (Q := 1) (N := 1) 1)⌝ ∗ owes (T c) (0 : CellTallies nD τ sig (HIx 1)) W)
/-- and after it. -/
abbrev R1 (c : Dev nD) : sProp 𝕄 :=
  iprop((∃ r, prngReg c r) ∗ ∃ W, ⌜(K (F := F)).WBelow (T c) W (8 * SparseCore.Cfg.Blocks.fst (Q := 1) (N := 1) 1)⌝ ∗ owes (T c) (0 : CellTallies nD τ sig (HIx 1)) W)

def seg0 : Pipeline.HostSeg (Name := ℕ) (U := UU) (pcfgs (F := F)) defs₀ 𝒱₀ (K (F := F)).L (K (F := F)).lev :=
  Pipeline.HostSeg.ofOps _ _ _ _ _ (Pipeline.ucRefs τ sig) opsA opsA_sub opsA_fresh (V0 m) (R0 ρ)
def seg1 : Pipeline.HostSeg (Name := ℕ) (U := UU) (pcfgs (F := F)) defs₀ 𝒱₀ (K (F := F)).L (K (F := F)).lev :=
  Pipeline.HostSeg.ofOps _ _ _ _ _ (Pipeline.ucRefs τ sig) opsB opsB_sub opsB_fresh (V2 m) (R1)

def reg : Pipeline.RegionSeg (pcfgs (F := F)) adm (dats m) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation m c).loose
  hwaits := Pipeline.hwaits_of_owed_zero _ _ _ _ _ _ 0 fun _ _ => rfl
  pre c := iprop(StableHlo.held (c : Thread nD τ) (Pipeline.ucRefs τ sig) (V1 m c) ∗ R0 ρ c)
  post c := iprop(StableHlo.held (c : Thread nD τ) (Pipeline.ucRefs τ sig) (V2 m c) ∗ R1 c)
  X c := iprop(∃ r, prngReg c r)
  Y c := iprop(∃ r, prngReg c r)
  Z c := Pipeline.unscopedRest spec1 c (fun b => V1 m c (Proc.devRef .tc b))
  hentry c := by
    rw [Pipeline.ownSems0_none,
      show StableHlo.held (c.tc : Thread nD τ) (Pipeline.ucRefs τ sig) (V1 m c) = unscopedBufs c (fun b => V1 m c (Proc.devRef .tc b))
        from (Pipeline.unscopedBufs_held (Ix := HIx 1) (Name := ℕ) (U := UU) (Lvl := ℕ) c (V1 m c)).symm]
    have hsplit := Pipeline.arrays_of_unscopedBufs (p := 0) (pcfgs (F := F)) adm (dats m) launch1.win launch1.arr_whole c
      (fun w => (dats m 0 c).share_full (fun _ => rfl) w) (fun b => V1 m c (Proc.devRef .tc b)) (fun w => A_eq m c w)
    iintro ⟨⟨Hub, Hp, %W, %hW, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Dat.owesAt Pipeline.owesWithin
      rw [show (dats m 0 c).owed 0 = 0 from rfl]
      iexists W; isplitr
      · ipureintro; exact fun p hp => Or.inl (hW p hp)
      iexact HO
    isplitl [Hp]; · iexists _; iexact Hp
    iexact Hrest
  hin c := by
    rw [show (dats m 0 c).Φ 0 = ΦR c from rfl]
    unfold ΦR; iintro ⟨Hp, -, Hr⟩
    isplitl [Hr] <;> iassumption
  hout c := by
    rw [show (dats m 0 c).Φ (Fin.last _) = ΦR c from rfl, Pipeline.ownSems0_none]
    unfold ΦR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (dats m) (fun w => (dats m 0 c).share_full (fun _ => rfl) w)
      (fun b => V1 m c (Proc.devRef .tc b)) (fun b => V2 m c (Proc.devRef .tc b)) ((dats m 0 c).arrAt · cfg1.N)
      (fun w => (Pipeline.afterRegion_arr (dats m 0 c) (V1 m c) launch1.win.arr_inj w).symm)
      (fun b hb => Pipeline.afterRegion_of_not_arr (dats m 0 c) (V1 m c)
        fun w h => hb (h ▸ Finset.mem_image.mpr ⟨w, Finset.mem_univ _, rfl⟩))
    rw [show StableHlo.held (c.tc : Thread nD τ) (Pipeline.ucRefs τ sig) (V2 m c) = unscopedBufs c (fun b => V2 m c (Proc.devRef .tc b))
        from (Pipeline.unscopedBufs_held (Ix := HIx 1) (Name := ℕ) (U := UU) (Lvl := ℕ) c (V2 m c)).symm]
    iintro ⟨Ha, HO, Hp, Hrest⟩
    imodintro
    isplitl [Ha Hrest]
    · iapply hjoin; isplitl [Ha] <;> iassumption
    isplitl [Hp]; · iexact Hp
    unfold Dat.owesAt Pipeline.owesWithin
    rw [show (dats m 0 c).owed (Fin.last _) = 0 from rfl]
    icases HO with ⟨%W, %hW, HO⟩; iexists W; isplitr
    · ipureintro
      intro p hp
      rcases hW hp with h | ⟨w, s, h⟩
      · exact h
      · rw [h]; exact Nat.zero_le _
    iexact HO

/-- The segments after the gather. -/
def segs : List (Pipeline.Seg (pcfgs (F := F)) adm (dats m) (none : HIx 1) defs₀ 𝒱₀ (K (F := F)).L (K (F := F)).lev) :=
  [.host (seg0 m ρ), .region (reg m ρ), .host (seg1 m)]

theorem main_eq (d : Dev nD) :
    main (F := F) d = ((sc (F := F)).run d 0 >>= fun _ => SparseCore.liftProg (Pipeline.Seg.run (segs m ρ))) := by
  rfl

end Cert.Proof.PI

end
-- ==== Proof.PI.Launch.lean ====
/-
  The launch: the ghost state, @main on the TensorCore (the gather's call, then the segments), and the run of the whole
  program: every unscoped buffer at the contents `V3`, every semaphore zero.
-/
module

public import proofs.«01_k».proof.Proof.PI.Tasks
public import proofs.«01_k».proof.Proof.PI.Region

@[expose] public section

set_option maxRecDepth 16384

noncomputable section

namespace Cert.Proof.PI

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-- The pipeline's launch element. -/
def pu₀ : UP :=
  initOf (Pipeline.cells (Pipeline.pin (pcfgs (F := F)) adm) (launch1.toP.cellOf_inj adm))
    (Pipeline.launchToks (Pipeline.pin (pcfgs (F := F)) adm) (launch1.toP.cellOf_inj adm))

/-- The launch element of the certificate's ghost state. -/
def u₀ : UU := (initOf (K (F := F)).hsCells (K (F := F)).hsToks, (pu₀ (F := F), 1))

/-- What the launch deals a TensorCore: the pipeline's ghost state. -/
abbrev G (d : Dev nD) : sProp 𝕄 := Pipeline.ghostOn (pcfgs (F := F)) adm EP Finset.univ d

theorem bigSep_emp' {I : Type} (s : Finset I) : (bigSep s fun _ => iprop(emp)) = (iprop(emp) : sProp 𝕄) := bigSep_emp_const s

theorem own_EP (p : UP) : (BI.own (embR ((p, 1) : UP × Counters)) : sProp 𝕄) ⊢ BI.own (EP p) :=
  Entails.of_eq rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hghost : iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : sProp 𝕄)))
      ⊢ bigSep Finset.univ fun c : Dev nD => G (F := F) c := by
    rw [← bigSep_sep']
    exact bigSep_mono fun c _ => show iprop((bigSep Finset.univ fun p => Pipeline.cellsGhost (Pipeline.pin (pcfgs (F := F)) adm) EP p c)
          ∗ bigSep Finset.univ fun p => (Pipeline.toksInit (Pipeline.pin (pcfgs (F := F)) adm) EP p c : sProp 𝕄)) ⊢ G (F := F) c
      from Entails.of_eq (by unfold G Pipeline.ghostOn Pipeline.PerCore.ghostOn; rw [bigSep_sep'])
  unfold u₀
  iintro Hu
  ihave H := (ownU_pair (initOf (K (F := F)).hsCells (K (F := F)).hsToks) ((pu₀ (F := F), 1) : UP × Counters)) $$ Hu
  icases H with ⟨HH, HR⟩
  ihave HP := (own_EP (F := F) (pu₀ (F := F))) $$ HR
  unfold pu₀
  imod (Pipeline.fund_ghost (Pipeline.pin (pcfgs (F := F)) adm) EP (launch1.toP.cellOf_inj adm)) $$ HP with ⟨Hg, Ht⟩
  imodintro
  isplitl [HH]; · iexact HH
  isplitl [Hg Ht]
  · iapply hghost
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The gather's three buffers. -/
def R3 : Finset (Ref sig .tc) := {main_arg4, main_arg17, main_v0}

theorem R3_sub : R3 ⊆ Finset.univ.filter fun b : Ref sig .tc => ¬ b.isScoped := by
  unfold R3; decide

theorem R3_eq (d : Dev nD) (W : (b : Ref sig .tc) → Buf (Elt F) ((d.tc : Thread nD τ).loc b)) :
    (bigSep R3 fun b => ((d.tc : Thread nD τ).loc b) ↦{fullShare} W b : sProp 𝕄)
      = iprop((iLoc d ↦{fullShare} W main_arg4) ∗ (xLoc d ↦{fullShare} W main_arg17) ∗ oLoc d ↦{fullShare} W main_v0) := by
  unfold R3
  rw [SparseCore.bigSep_insert' (by decide), SparseCore.bigSep_insert' (by decide), bigSep_singleton]

theorem V0_v0 (d : Dev nD) : V0 m d (Proc.devRef .tc main_v0) = gath m d := by
  unfold V0; exact Function.update_self ..
theorem V0_ne (d : Dev nD) (b : Ref sig .tc) (h : b ≠ main_v0) :
    V0 m d (Proc.devRef .tc b) = m ((d.tc : Thread nD τ).loc b) := by
  unfold V0
  rw [Function.update_of_ne (StableHlo.devRef_ne_of_ne h)]

/-- What @main leaves: every unscoped buffer at `V3`. -/
abbrev FIN (d : Dev nD) : sProp 𝕄 := StableHlo.held (d : Thread nD τ) (Pipeline.ucRefs τ sig) (V3 m d)

theorem bufs_before (d : Dev nD) :
    (unscopedBufs d (fun b => m ((SparseCore.T d).loc b)) : sProp 𝕄)
      ⊢ iprop((iPts m d ∗ xPts m d ∗ oPts d (m (oLoc d))) ∗ Pipeline.unscopedBufsBut R3 d (fun b => m ((SparseCore.T d).loc b))) := by
  rw [Pipeline.unscopedBufs_sdiff R3 R3_sub, R3_eq]

theorem bufs_after (d : Dev nD) :
    iprop((iPts m d ∗ xPts m d ∗ oPts d (gath m d)) ∗ Pipeline.unscopedBufsBut R3 d (fun b => m ((SparseCore.T d).loc b)))
      ⊢ (StableHlo.held (d : Thread nD τ) (Pipeline.ucRefs τ sig) (V0 m d) : sProp 𝕄) := by
  rw [← Pipeline.unscopedBufs_held (Ix := HIx 1) (Name := ℕ) (U := UU) (Lvl := ℕ) d (V0 m d),
    Pipeline.unscopedBufs_sdiff R3 R3_sub, R3_eq, V0_v0, V0_ne m d _ (by decide), V0_ne m d _ (by decide)]
  refine sep_mono .rfl (Entails.of_eq ?_)
  unfold Pipeline.unscopedBufsBut
  refine bigSep_congr fun b hb => ?_
  exact congrArg _ (V0_ne m d b (fun h => (Finset.mem_sdiff.mp hb).2 (h ▸ by unfold R3; decide))).symm

theorem segs_wp [∀ e, Nonempty (Elt F e)] (d : Dev nD) {Q : PUnit → sProp 𝕄} :
    iprop((iprop(boundary (d.tc : Thread nD τ) ∗ (StableHlo.held (d : Thread nD τ) (Pipeline.ucRefs τ sig) (V3 m d) ∗ R1 d)) -∗ Q ⟨⟩)
        ∗ boundary (d.tc : Thread nD τ) ∗ (StableHlo.held (d : Thread nD τ) (Pipeline.ucRefs τ sig) (V0 m d) ∗ R0 ρ d)
        ∗ levAts (K (F := F)).L (K (F := F)).lev ∗ G (F := F) d)
      ⊢ wp frame (wpE (D (F := F)) 𝒱 (SparseCore.T d) none) Set.univ (Pipeline.Seg.run (segs m ρ)) Q :=
  Pipeline.wp_segs (pcfgs (F := F)) adm (dats m) (none : HIx 1) (launch1.toP.cellOf_inj adm) EP defs₀ 𝒱₀ (K (F := F)).L (K (F := F)).lev d
    (segs m ρ) Finset.univ
    (fun d => iprop(StableHlo.held (d : Thread nD τ) (Pipeline.ucRefs τ sig) (V0 m d) ∗ R0 ρ d))
    (fun d => iprop(StableHlo.held (d : Thread nD τ) (Pipeline.ucRefs τ sig) (V3 m d) ∗ R1 d))
    (show ([0] : List (Fin 1)).Nodup by decide) (fun _ _ => Finset.mem_univ _)
    ⟨fun _ => .rfl, fun _ => .rfl, fun _ => .rfl, fun _ => .rfl⟩

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq m ρ d, wp_bind]
  iintro ⟨#Hctx, Hst, ⟨Hb, Hub, Hts, Hp⟩, HG⟩
  ihave Hub' := (bufs_before m d) $$ Hub
  icases Hub' with ⟨⟨Hi, Hx, Ho⟩, Hrest⟩
  iapply ((K (F := F)).wp_run (D (F := F)) 𝒱 (EH := EH) (P := P m) κ d 0)
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  ihave Hh := (bufs_after m d) $$ [Hdn' Hrest]
  · isplitl [Hdn']; · iexact Hdn'
    iexact Hrest
  ihave Hlev := (SparseCore.Cfg.ctx_levAts κ) $$ Hctx
  unfold SparseCore.Cfg.tcSt
  icases Hst with ⟨HO, Hst⟩
  rw [show (K (F := F)).Otc d ((0 : Fin 1).val + 1) = 0 from (K (F := F)).Otc_end d le_rfl,
    show (K (F := F)).Otc d 1 = 0 from (K (F := F)).Otc_end d le_rfl]
  iapply ((K (F := F)).wp_liftProg (D (F := F)) 𝒱 (SparseCore.T d) Set.univ none (Pipeline.Seg.run (segs m ρ)) _)
  iapply (segs_wp m ρ d)
  isplitl [Hst Hts]
  · iintro ⟨Hb, Hh, -, HO⟩
    isplitl [HO Hst]
    · isplitl [HO]; · iexact HO
      iexact Hst
    isplitl [Hh]; · iexact Hh
    isplitl [Hb]; · iexact Hb
    iexact Hts
  isplitl [Hb]; · iexact Hb
  isplitl [Hh Hp HO]
  · isplitl [Hh]; · iexact Hh
    isplitl [Hp]; · iexact Hp
    iexact HO
  isplitl [Hlev]; · iexact Hlev
  iexact HG

/-- What the final memory holds: every unscoped buffer at `V3`. -/
def fq (d : Dev nD) (s' : Phys nD τ sig (Elt F)) : Prop :=
  ∀ b ∈ Pipeline.ucRefs τ sig, s'.mem.mem (d, b) = V3 m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave Hr := (pointsTo_read_all (Pipeline.ucRefs τ sig) (fun b => ((d.tc : Thread nD τ).1, b)) (V3 m d) s') $$ [Hh HSI]
  · isplitl [Hh] <;> iassumption
  icases Hr with ⟨%h, -⟩
  ipureintro; exact h

/-- The run's result. -/
def QC : PUnit × MemSt nD τ sig (Elt F) → Prop := fun r =>
  (∀ (d : Dev nD), ∀ b ∈ Pipeline.ucRefs τ sig, r.2.mem (d, b) = V3 m d b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.PI

end
-- ==== Proof.PI.Frame.lean ====
/-
  The arguments end as they began, the gather's precondition read off the claim's, and the frame claim.
-/
module

public import proofs.«01_k».proof.Defs
public import proofs.«01_k».proof.Proof.PI.Launch
public import proofs.«01_k».proof.Proof.Gen.Pre_ids_in_table
public import Idealize.ShloMosaic.Lib.ReduceAll

@[expose] public section

set_option maxRecDepth 16384

noncomputable section

namespace Cert.Proof.PI

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-- A buffer no host operation writes keeps its contents up to the region. -/
theorem V1_of_not (d : Dev nD) (b : Ref sig .tc) (h0 : b ≠ main_v0)
    (h : (opsA : List (HloOp τ sig (Elt F))).Forall fun op => Proc.devRef .tc b ∉ op.writes) :
    V1 m d (Proc.devRef .tc b) = m ((d.tc : Thread nD τ).loc b) :=
  (StableHlo.after_of_forall_not_mem (b := Proc.devRef .tc b) _ _ (List.forall_iff_forall_mem.mp h)).trans (V0_ne m d b h0)

theorem V3_of_ne (d : Dev nD) (b : Ref sig .tc) (h : b ≠ main_v33) : V3 m d (Proc.devRef .tc b) = V2 m d (Proc.devRef .tc b) :=
  StableHlo.after_of_forall_not_mem (b := Proc.devRef .tc b) _ _ (List.forall_iff_forall_mem.mp (by
    simp only [opsB, List.Forall, StableHlo.reshape_writes, Finset.mem_singleton]
    exact StableHlo.devRef_ne_of_ne h))

theorem V1_arg0 (d : Dev nD) : V1 m d (Proc.devRef .tc main_arg0) = m ((d.tc : Thread nD τ).loc main_arg0) :=
  V1_of_not m d main_arg0 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg1 (d : Dev nD) : V1 m d (Proc.devRef .tc main_arg1) = m ((d.tc : Thread nD τ).loc main_arg1) :=
  V1_of_not m d main_arg1 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg2 (d : Dev nD) : V1 m d (Proc.devRef .tc main_arg2) = m ((d.tc : Thread nD τ).loc main_arg2) :=
  V1_of_not m d main_arg2 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg3 (d : Dev nD) : V1 m d (Proc.devRef .tc main_arg3) = m ((d.tc : Thread nD τ).loc main_arg3) :=
  V1_of_not m d main_arg3 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg4 (d : Dev nD) : V1 m d (Proc.devRef .tc main_arg4) = m ((d.tc : Thread nD τ).loc main_arg4) :=
  V1_of_not m d main_arg4 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg5 (d : Dev nD) : V1 m d (Proc.devRef .tc main_arg5) = m ((d.tc : Thread nD τ).loc main_arg5) :=
  V1_of_not m d main_arg5 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg6 (d : Dev nD) : V1 m d (Proc.devRef .tc main_arg6) = m ((d.tc : Thread nD τ).loc main_arg6) :=
  V1_of_not m d main_arg6 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg7 (d : Dev nD) : V1 m d (Proc.devRef .tc main_arg7) = m ((d.tc : Thread nD τ).loc main_arg7) :=
  V1_of_not m d main_arg7 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg8 (d : Dev nD) : V1 m d (Proc.devRef .tc main_arg8) = m ((d.tc : Thread nD τ).loc main_arg8) :=
  V1_of_not m d main_arg8 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg9 (d : Dev nD) : V1 m d (Proc.devRef .tc main_arg9) = m ((d.tc : Thread nD τ).loc main_arg9) :=
  V1_of_not m d main_arg9 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg10 (d : Dev nD) : V1 m d (Proc.devRef .tc main_arg10) = m ((d.tc : Thread nD τ).loc main_arg10) :=
  V1_of_not m d main_arg10 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg11 (d : Dev nD) : V1 m d (Proc.devRef .tc main_arg11) = m ((d.tc : Thread nD τ).loc main_arg11) :=
  V1_of_not m d main_arg11 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg12 (d : Dev nD) : V1 m d (Proc.devRef .tc main_arg12) = m ((d.tc : Thread nD τ).loc main_arg12) :=
  V1_of_not m d main_arg12 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg13 (d : Dev nD) : V1 m d (Proc.devRef .tc main_arg13) = m ((d.tc : Thread nD τ).loc main_arg13) :=
  V1_of_not m d main_arg13 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg14 (d : Dev nD) : V1 m d (Proc.devRef .tc main_arg14) = m ((d.tc : Thread nD τ).loc main_arg14) :=
  V1_of_not m d main_arg14 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg15 (d : Dev nD) : V1 m d (Proc.devRef .tc main_arg15) = m ((d.tc : Thread nD τ).loc main_arg15) :=
  V1_of_not m d main_arg15 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg16 (d : Dev nD) : V1 m d (Proc.devRef .tc main_arg16) = m ((d.tc : Thread nD τ).loc main_arg16) :=
  V1_of_not m d main_arg16 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg17 (d : Dev nD) : V1 m d (Proc.devRef .tc main_arg17) = m ((d.tc : Thread nD τ).loc main_arg17) :=
  V1_of_not m d main_arg17 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg18 (d : Dev nD) : V1 m d (Proc.devRef .tc main_arg18) = m ((d.tc : Thread nD τ).loc main_arg18) :=
  V1_of_not m d main_arg18 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg19 (d : Dev nD) : V1 m d (Proc.devRef .tc main_arg19) = m ((d.tc : Thread nD τ).loc main_arg19) :=
  V1_of_not m d main_arg19 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg20 (d : Dev nD) : V1 m d (Proc.devRef .tc main_arg20) = m ((d.tc : Thread nD τ).loc main_arg20) :=
  V1_of_not m d main_arg20 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg21 (d : Dev nD) : V1 m d (Proc.devRef .tc main_arg21) = m ((d.tc : Thread nD τ).loc main_arg21) :=
  V1_of_not m d main_arg21 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg22 (d : Dev nD) : V1 m d (Proc.devRef .tc main_arg22) = m ((d.tc : Thread nD τ).loc main_arg22) :=
  V1_of_not m d main_arg22 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V1_arg23 (d : Dev nD) : V1 m d (Proc.devRef .tc main_arg23) = m ((d.tc : Thread nD τ).loc main_arg23) :=
  V1_of_not m d main_arg23 (by decide) (by
    simp only [opsA, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide))
theorem V3_arg0 (d : Dev nD) : V3 m d (Proc.devRef .tc main_arg0) = m ((d.tc : Thread nD τ).loc main_arg0) :=
  (V3_of_ne m d _ (by decide)).trans ((Pipeline.afterRegion_of_not_arr (dats m 0 d) (V1 m d) (by decide)).trans (V1_arg0 m d))
theorem V3_arg1 (d : Dev nD) : V3 m d (Proc.devRef .tc main_arg1) = m ((d.tc : Thread nD τ).loc main_arg1) :=
  (V3_of_ne m d _ (by decide)).trans ((Pipeline.afterRegion_of_not_arr (dats m 0 d) (V1 m d) (by decide)).trans (V1_arg1 m d))
theorem V3_arg2 (d : Dev nD) : V3 m d (Proc.devRef .tc main_arg2) = m ((d.tc : Thread nD τ).loc main_arg2) :=
  (V3_of_ne m d _ (by decide)).trans (((Pipeline.afterRegion_arr (dats m 0 d) (V1 m d) launch1.win.arr_inj 3).trans
    (((dats m 0 d).arrAt_in 3 rfl _).trans (A_eq m d 3))).trans (V1_arg2 m d))
theorem V3_arg3 (d : Dev nD) : V3 m d (Proc.devRef .tc main_arg3) = m ((d.tc : Thread nD τ).loc main_arg3) :=
  (V3_of_ne m d _ (by decide)).trans ((Pipeline.afterRegion_of_not_arr (dats m 0 d) (V1 m d) (by decide)).trans (V1_arg3 m d))
theorem V3_arg4 (d : Dev nD) : V3 m d (Proc.devRef .tc main_arg4) = m ((d.tc : Thread nD τ).loc main_arg4) :=
  (V3_of_ne m d _ (by decide)).trans ((Pipeline.afterRegion_of_not_arr (dats m 0 d) (V1 m d) (by decide)).trans (V1_arg4 m d))
theorem V3_arg5 (d : Dev nD) : V3 m d (Proc.devRef .tc main_arg5) = m ((d.tc : Thread nD τ).loc main_arg5) :=
  (V3_of_ne m d _ (by decide)).trans ((Pipeline.afterRegion_of_not_arr (dats m 0 d) (V1 m d) (by decide)).trans (V1_arg5 m d))
theorem V3_arg6 (d : Dev nD) : V3 m d (Proc.devRef .tc main_arg6) = m ((d.tc : Thread nD τ).loc main_arg6) :=
  (V3_of_ne m d _ (by decide)).trans ((Pipeline.afterRegion_of_not_arr (dats m 0 d) (V1 m d) (by decide)).trans (V1_arg6 m d))
theorem V3_arg7 (d : Dev nD) : V3 m d (Proc.devRef .tc main_arg7) = m ((d.tc : Thread nD τ).loc main_arg7) :=
  (V3_of_ne m d _ (by decide)).trans ((Pipeline.afterRegion_of_not_arr (dats m 0 d) (V1 m d) (by decide)).trans (V1_arg7 m d))
theorem V3_arg8 (d : Dev nD) : V3 m d (Proc.devRef .tc main_arg8) = m ((d.tc : Thread nD τ).loc main_arg8) :=
  (V3_of_ne m d _ (by decide)).trans ((Pipeline.afterRegion_of_not_arr (dats m 0 d) (V1 m d) (by decide)).trans (V1_arg8 m d))
theorem V3_arg9 (d : Dev nD) : V3 m d (Proc.devRef .tc main_arg9) = m ((d.tc : Thread nD τ).loc main_arg9) :=
  (V3_of_ne m d _ (by decide)).trans (((Pipeline.afterRegion_arr (dats m 0 d) (V1 m d) launch1.win.arr_inj 6).trans
    (((dats m 0 d).arrAt_in 6 rfl _).trans (A_eq m d 6))).trans (V1_arg9 m d))
theorem V3_arg10 (d : Dev nD) : V3 m d (Proc.devRef .tc main_arg10) = m ((d.tc : Thread nD τ).loc main_arg10) :=
  (V3_of_ne m d _ (by decide)).trans ((Pipeline.afterRegion_of_not_arr (dats m 0 d) (V1 m d) (by decide)).trans (V1_arg10 m d))
theorem V3_arg11 (d : Dev nD) : V3 m d (Proc.devRef .tc main_arg11) = m ((d.tc : Thread nD τ).loc main_arg11) :=
  (V3_of_ne m d _ (by decide)).trans (((Pipeline.afterRegion_arr (dats m 0 d) (V1 m d) launch1.win.arr_inj 8).trans
    (((dats m 0 d).arrAt_in 8 rfl _).trans (A_eq m d 8))).trans (V1_arg11 m d))
theorem V3_arg12 (d : Dev nD) : V3 m d (Proc.devRef .tc main_arg12) = m ((d.tc : Thread nD τ).loc main_arg12) :=
  (V3_of_ne m d _ (by decide)).trans ((Pipeline.afterRegion_of_not_arr (dats m 0 d) (V1 m d) (by decide)).trans (V1_arg12 m d))
theorem V3_arg13 (d : Dev nD) : V3 m d (Proc.devRef .tc main_arg13) = m ((d.tc : Thread nD τ).loc main_arg13) :=
  (V3_of_ne m d _ (by decide)).trans (((Pipeline.afterRegion_arr (dats m 0 d) (V1 m d) launch1.win.arr_inj 10).trans
    (((dats m 0 d).arrAt_in 10 rfl _).trans (A_eq m d 10))).trans (V1_arg13 m d))
theorem V3_arg14 (d : Dev nD) : V3 m d (Proc.devRef .tc main_arg14) = m ((d.tc : Thread nD τ).loc main_arg14) :=
  (V3_of_ne m d _ (by decide)).trans ((Pipeline.afterRegion_of_not_arr (dats m 0 d) (V1 m d) (by decide)).trans (V1_arg14 m d))
theorem V3_arg15 (d : Dev nD) : V3 m d (Proc.devRef .tc main_arg15) = m ((d.tc : Thread nD τ).loc main_arg15) :=
  (V3_of_ne m d _ (by decide)).trans (((Pipeline.afterRegion_arr (dats m 0 d) (V1 m d) launch1.win.arr_inj 12).trans
    (((dats m 0 d).arrAt_in 12 rfl _).trans (A_eq m d 12))).trans (V1_arg15 m d))
theorem V3_arg16 (d : Dev nD) : V3 m d (Proc.devRef .tc main_arg16) = m ((d.tc : Thread nD τ).loc main_arg16) :=
  (V3_of_ne m d _ (by decide)).trans ((Pipeline.afterRegion_of_not_arr (dats m 0 d) (V1 m d) (by decide)).trans (V1_arg16 m d))
theorem V3_arg17 (d : Dev nD) : V3 m d (Proc.devRef .tc main_arg17) = m ((d.tc : Thread nD τ).loc main_arg17) :=
  (V3_of_ne m d _ (by decide)).trans ((Pipeline.afterRegion_of_not_arr (dats m 0 d) (V1 m d) (by decide)).trans (V1_arg17 m d))
theorem V3_arg18 (d : Dev nD) : V3 m d (Proc.devRef .tc main_arg18) = m ((d.tc : Thread nD τ).loc main_arg18) :=
  (V3_of_ne m d _ (by decide)).trans ((Pipeline.afterRegion_of_not_arr (dats m 0 d) (V1 m d) (by decide)).trans (V1_arg18 m d))
theorem V3_arg19 (d : Dev nD) : V3 m d (Proc.devRef .tc main_arg19) = m ((d.tc : Thread nD τ).loc main_arg19) :=
  (V3_of_ne m d _ (by decide)).trans ((Pipeline.afterRegion_of_not_arr (dats m 0 d) (V1 m d) (by decide)).trans (V1_arg19 m d))
theorem V3_arg20 (d : Dev nD) : V3 m d (Proc.devRef .tc main_arg20) = m ((d.tc : Thread nD τ).loc main_arg20) :=
  (V3_of_ne m d _ (by decide)).trans ((Pipeline.afterRegion_of_not_arr (dats m 0 d) (V1 m d) (by decide)).trans (V1_arg20 m d))
theorem V3_arg21 (d : Dev nD) : V3 m d (Proc.devRef .tc main_arg21) = m ((d.tc : Thread nD τ).loc main_arg21) :=
  (V3_of_ne m d _ (by decide)).trans ((Pipeline.afterRegion_of_not_arr (dats m 0 d) (V1 m d) (by decide)).trans (V1_arg21 m d))
theorem V3_arg22 (d : Dev nD) : V3 m d (Proc.devRef .tc main_arg22) = m ((d.tc : Thread nD τ).loc main_arg22) :=
  (V3_of_ne m d _ (by decide)).trans ((Pipeline.afterRegion_of_not_arr (dats m 0 d) (V1 m d) (by decide)).trans (V1_arg22 m d))
theorem V3_arg23 (d : Dev nD) : V3 m d (Proc.devRef .tc main_arg23) = m ((d.tc : Thread nD τ).loc main_arg23) :=
  (V3_of_ne m d _ (by decide)).trans ((Pipeline.afterRegion_of_not_arr (dats m 0 d) (V1 m d) (by decide)).trans (V1_arg23 m d))

/-- The result: the region's output array, reshaped. -/
theorem V3_res (d : Dev nD) : V3 m d (Proc.devRef .tc main_v33)
    = shapeCast S1024x200x128 ((dats m 0 d).arrAt 17 cfg1.N) shapeCasts_S204800x128_S1024x200x128 := by
  unfold V3 opsB
  rw [StableHlo.after_cons, StableHlo.after_nil, StableHlo.reshape_result]
  unfold V2
  exact congrArg (fun v => shapeCast S1024x200x128 v shapeCasts_S204800x128_S1024x200x128)
    (Pipeline.afterRegion_arr (dats m 0 d) (V1 m d) launch1.win.arr_inj 17)

/-- The run's result at the arguments and the output. -/
theorem run_args [∀ e, Nonempty (Elt F e)] (hpre : PreOK m) :
    θ_run (Cert.KernelIdeal.defs (F := F)) (Cert.KernelIdeal.threads (F := F)) ⟨m, fun _ => 0, ρ⟩ (fun r => (∀ c : Dev nD,
      r.2.mem ((c.tc : Thread nD τ).loc main_v33) = V3 m c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  (θ_run (Cert.KernelIdeal.defs (F := F)) _ _).mono (fun r h => ⟨fun c =>
    ⟨h.1 c _ (Pipeline.devRef_mem_ucRefs (by decide)),
     (h.1 c _ (Pipeline.devRef_mem_ucRefs (by decide))).trans (V3_arg0 m c),
     (h.1 c _ (Pipeline.devRef_mem_ucRefs (by decide))).trans (V3_arg1 m c),
     (h.1 c _ (Pipeline.devRef_mem_ucRefs (by decide))).trans (V3_arg2 m c),
     (h.1 c _ (Pipeline.devRef_mem_ucRefs (by decide))).trans (V3_arg3 m c),
     (h.1 c _ (Pipeline.devRef_mem_ucRefs (by decide))).trans (V3_arg4 m c),
     (h.1 c _ (Pipeline.devRef_mem_ucRefs (by decide))).trans (V3_arg5 m c),
     (h.1 c _ (Pipeline.devRef_mem_ucRefs (by decide))).trans (V3_arg6 m c),
     (h.1 c _ (Pipeline.devRef_mem_ucRefs (by decide))).trans (V3_arg7 m c),
     (h.1 c _ (Pipeline.devRef_mem_ucRefs (by decide))).trans (V3_arg8 m c),
     (h.1 c _ (Pipeline.devRef_mem_ucRefs (by decide))).trans (V3_arg9 m c),
     (h.1 c _ (Pipeline.devRef_mem_ucRefs (by decide))).trans (V3_arg10 m c),
     (h.1 c _ (Pipeline.devRef_mem_ucRefs (by decide))).trans (V3_arg11 m c),
     (h.1 c _ (Pipeline.devRef_mem_ucRefs (by decide))).trans (V3_arg12 m c),
     (h.1 c _ (Pipeline.devRef_mem_ucRefs (by decide))).trans (V3_arg13 m c),
     (h.1 c _ (Pipeline.devRef_mem_ucRefs (by decide))).trans (V3_arg14 m c),
     (h.1 c _ (Pipeline.devRef_mem_ucRefs (by decide))).trans (V3_arg15 m c),
     (h.1 c _ (Pipeline.devRef_mem_ucRefs (by decide))).trans (V3_arg16 m c),
     (h.1 c _ (Pipeline.devRef_mem_ucRefs (by decide))).trans (V3_arg17 m c),
     (h.1 c _ (Pipeline.devRef_mem_ucRefs (by decide))).trans (V3_arg18 m c),
     (h.1 c _ (Pipeline.devRef_mem_ucRefs (by decide))).trans (V3_arg19 m c),
     (h.1 c _ (Pipeline.devRef_mem_ucRefs (by decide))).trans (V3_arg20 m c),
     (h.1 c _ (Pipeline.devRef_mem_ucRefs (by decide))).trans (V3_arg21 m c),
     (h.1 c _ (Pipeline.devRef_mem_ucRefs (by decide))).trans (V3_arg22 m c),
     (h.1 c _ (Pipeline.devRef_mem_ucRefs (by decide))).trans (V3_arg23 m c)⟩, h.2⟩) (run_main m ρ hpre)

/-- A word at least 0 and less than 100000, both signed, is below 100000. -/
theorem id_lt (v : BitVec 32) (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton Cert.Pre_ids_in_table.S_.Idx := ⟨fun a b => funext fun k => k.elim0⟩

/-- The precondition `ids_in_table`, all ones, gives what the gather asks of the launch memory. -/
theorem ok_of_pre (m : (ℓ : Loc nD τ sig) → Buf (Elt Ideal) ℓ) (h : Cert.Pre_KernelIdeal m) : PreOK (F := Ideal) m := by
  intro d j
  have e := congrFun (h d) ix0
  unfold Cert.Pre_ids_in_table.fn at e
  have e' := Host.reduce_andi_all _ _ _ _ _ e j
  exact id_lt _ e'

/-- The frame claim. -/
theorem frame : Cert.quiescent_KernelIdeal := fun m ρ hpre =>
  (θ_run Cert.KernelIdeal.defs _ _).mono (fun _ h => ⟨fun c => (h.1 c).2, h.2⟩) (run_args (F := Ideal) m ρ (ok_of_pre m hpre))

end Cert.Proof.PI

end
-- ==== Proof.Ref.lean ====
/- The reference's frame: its arguments end as they began, and it declares no semaphore. -/
module

public import proofs.«01_k».proof.Defs
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof.Ref

open Idealize.ShloMosaic Idealize.SL.Sem Cert.ReferenceIdeal Cert.ReferenceIdeal.Gen

/-- The reference runs, its arguments unchanged, from every launch memory. -/
theorem frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Ref

end
-- ==== Proof.V.PreFacts.lean ====
/- The shape relations the finite precondition's operations take, each decided. -/
module

public import proofs.«01_k».proof.Defs
public import Idealize.ShloMosaic.Lib.Decide

@[expose] public section

namespace Cert.Proof.V

open Idealize.ShloMosaic

/-- The finite precondition's shape relations. -/
instance preFacts : Cert.Pre_ids_in_table_alpha_time_finite.Facts where
  bcast_S_S1024 := by decide
  reducesTo_S1024_S_d0 := by decide
  h_S_ := by decide
  reducesTo_S_S_d := by decide

end Cert.Proof.V
-- ==== Proof.V.Index.lean ====
/- Row gathers and block scatters, read at an element: the general forms of this problem's lookups. -/
module

public import Idealize.ShloMosaic.Lib.Pointwise
public import Idealize.ShloMosaic.Lib.ValueIdxCore
public import Idealize.ShloMosaic.Lib.Routing.OpsSet

@[expose] public section

noncomputable section

namespace Cert.Proof.V

open Idealize.ShloMosaic
open Idealize.ShloMosaic.ValueIdx (idx2_lt0 idx2_lt1)

section Rows
variable {α : Type}

/-- A lookup of whole rows of a table `[N, n]` by words `[B, S, 1]`. -/
abbrev rowsDims3 (N n B S : Nat) (wf : GatherDims.WF ⟨2, ![N, n]⟩ ⟨3, ![B, S, 1]⟩ ⟨3, ![B, S, n]⟩ [2] [0] [] [0] [] 2 ![1, n]) :
    GatherDims ⟨2, ![N, n]⟩ ⟨3, ![B, S, 1]⟩ ⟨3, ![B, S, n]⟩ where
  offsetDims := [2]
  collapsedSliceDims := [0]
  operandBatchingDims := []
  startIndicesBatchingDims := []
  startIndexMap := [0]
  indexVectorDim := 2
  sliceSizes := ![1, n]
  wf := wf

/-- Element `(b, s, k)` of that lookup: the table at the row of word `(b, s)`, clamped, column `k`. -/
theorem rows3_apply {N n B S w : Nat} (hN : 0 < N)
    (wf : GatherDims.WF ⟨2, ![N, n]⟩ ⟨3, ![B, S, 1]⟩ ⟨3, ![B, S, n]⟩ [2] [0] [] [0] [] 2 ![1, n])
    (x : (⟨2, ![N, n]⟩ : Shape).Idx → α) (idx : IVec ⟨3, ![B, S, 1]⟩ w) (b : Fin B) (s : Fin S) (k : Fin n) :
    Host.gather (rowsDims3 N n B S wf) x idx (ix3 b s k)
      = x (ix2 ⟨min (idx (ix3 b s (0 : Fin 1))).toInt.toNat (N - 1), by omega⟩ k) := by
  unfold Host.gather
  congr 1
  funext a
  refine Fin.ext ?_
  show (rowsDims3 N n B S wf).start (ix3 b s k) idx a + (rowsDims3 N n B S wf).batchCoord (ix3 b s k) a
      + (rowsDims3 N n B S wf).offCoord (ix3 b s k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    unfold GatherDims.start
    rw [dif_pos (show (0 : Fin 2) ∈ (rowsDims3 N n B S wf).startIndexMap from List.mem_singleton.mpr rfl)]
    have hsi : (rowsDims3 N n B S wf).siIdx (ix3 b s k) ⟨List.idxOf (0 : Fin 2) (rowsDims3 N n B S wf).startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  · rw [GatherDims.batchCoord_eq_zero _ _ _ (fun h => by simp at h)]
    unfold GatherDims.start
    rw [dif_neg (fun h => by simp [rowsDims3] at h)]
    simp only [Nat.zero_add]
    rfl

/-- A lookup of whole rows of a table `[N, n]` by words `[B, 1]`. -/
abbrev rowsDims2 (N n B : Nat) (wf : GatherDims.WF ⟨2, ![N, n]⟩ ⟨2, ![B, 1]⟩ ⟨2, ![B, n]⟩ [1] [0] [] [0] [] 1 ![1, n]) :
    GatherDims ⟨2, ![N, n]⟩ ⟨2, ![B, 1]⟩ ⟨2, ![B, n]⟩ where
  offsetDims := [1]
  collapsedSliceDims := [0]
  operandBatchingDims := []
  startIndicesBatchingDims := []
  startIndexMap := [0]
  indexVectorDim := 1
  sliceSizes := ![1, n]
  wf := wf

/-- Element `(b, k)` of that lookup: the table at the row of word `b`, clamped, column `k`. -/
theorem rows2_apply {N n B w : Nat} (hN : 0 < N)
    (wf : GatherDims.WF ⟨2, ![N, n]⟩ ⟨2, ![B, 1]⟩ ⟨2, ![B, n]⟩ [1] [0] [] [0] [] 1 ![1, n])
    (x : (⟨2, ![N, n]⟩ : Shape).Idx → α) (idx : IVec ⟨2, ![B, 1]⟩ w) (b : Fin B) (k : Fin n) :
    Host.gather (rowsDims2 N n B wf) x idx (ix2 b k)
      = x (ix2 ⟨min (idx (ix2 b (0 : Fin 1))).toInt.toNat (N - 1), by omega⟩ k) := by
  unfold Host.gather
  congr 1
  funext a
  refine Fin.ext ?_
  show (rowsDims2 N n B wf).start (ix2 b k) idx a + (rowsDims2 N n B wf).batchCoord (ix2 b k) a
      + (rowsDims2 N n B wf).offCoord (ix2 b k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    unfold GatherDims.start
    rw [dif_pos (show (0 : Fin 2) ∈ (rowsDims2 N n B wf).startIndexMap from List.mem_singleton.mpr rfl)]
    have hsi : (rowsDims2 N n B wf).siIdx (ix2 b k) ⟨List.idxOf (0 : Fin 2) (rowsDims2 N n B wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  · rw [GatherDims.batchCoord_eq_zero _ _ _ (fun h => by simp at h)]
    unfold GatherDims.start
    rw [dif_neg (fun h => by simp [rowsDims2] at h)]
    simp only [Nat.zero_add]
    rfl

end Rows

section Block
variable {α : Type}

/-- One block `[n, k]` written into a matrix `[N, K]` at a corner given by two words. -/
abbrev blockDims (N K n k : Nat) (wf : ScatterDims.WF ⟨2, ![N, K]⟩ ⟨1, ![2]⟩ ⟨2, ![n, k]⟩ [0, 1] [] [0, 1] 0) :
    ScatterDims ⟨2, ![N, K]⟩ ⟨1, ![2]⟩ ⟨2, ![n, k]⟩ where
  updateWindowDims := [0, 1]
  insertedWindowDims := []
  scatterDimsToOperandDims := [0, 1]
  indexVectorDim := 0
  wf := wf

variable {N K n k : Nat} (wf : ScatterDims.WF ⟨2, ![N, K]⟩ ⟨1, ![2]⟩ ⟨2, ![n, k]⟩ [0, 1] [] [0, 1] 0)

theorem block_start0 (idx : IVec ⟨1, ![2]⟩ 32) (j : (⟨2, ![n, k]⟩ : Shape).Idx) :
    (blockDims N K n k wf).start j idx 0 = (idx (ix1 (0 : Fin 2))).toInt := by
  unfold ScatterDims.start
  rw [dif_pos (by simp)]
  congr 2
  funext b; refine Fin.ext ?_
  match b with
  | ⟨0, _⟩ => rfl

theorem block_start1 (idx : IVec ⟨1, ![2]⟩ 32) (j : (⟨2, ![n, k]⟩ : Shape).Idx) :
    (blockDims N K n k wf).start j idx 1 = (idx (ix1 (1 : Fin 2))).toInt := by
  unfold ScatterDims.start
  rw [dif_pos (by simp)]
  congr 2
  funext b; refine Fin.ext ?_
  match b with
  | ⟨0, _⟩ => rfl

theorem block_window0 (j : (⟨2, ![n, k]⟩ : Shape).Idx) : (blockDims N K n k wf).window j 0 = (j 0).val := rfl
theorem block_window1 (j : (⟨2, ![n, k]⟩ : Shape).Idx) : (blockDims N K n k wf).window j 1 = (j 1).val := rfl

/-- Where update element `(i, l)` lands: `(o₀ + i, o₁ + l)`. -/
theorem block_result (idx : IVec ⟨1, ![2]⟩ 32) (o₀ o₁ : Nat) (h₀ : (idx (ix1 (0 : Fin 2))).toInt = o₀) (h₁ : (idx (ix1 (1 : Fin 2))).toInt = o₁)
    (hn : o₀ + n ≤ N) (hk : o₁ + k ≤ K) (j : (⟨2, ![n, k]⟩ : Shape).Idx) :
    (blockDims N K n k wf).resultIdx? j idx
      = some (ix2 (⟨o₀ + (j 0).val, by have := idx2_lt0 j; omega⟩ : Fin N) (⟨o₁ + (j 1).val, by have := idx2_lt1 j; omega⟩ : Fin K)) := by
  have l0 := idx2_lt0 j
  have l1 := idx2_lt1 j
  unfold ScatterDims.resultIdx?
  rw [dif_pos (by
    intro a
    match a with
    | ⟨0, _⟩ =>
      show 0 ≤ (blockDims N K n k wf).start j idx 0 + ((blockDims N K n k wf).window j 0 : Int) ∧ (blockDims N K n k wf).start j idx 0 + ((blockDims N K n k wf).window j 0 : Int) < (N : Int)
      rw [block_start0, h₀, block_window0]; omega
    | ⟨1, _⟩ =>
      show 0 ≤ (blockDims N K n k wf).start j idx 1 + ((blockDims N K n k wf).window j 1 : Int) ∧ (blockDims N K n k wf).start j idx 1 + ((blockDims N K n k wf).window j 1 : Int) < (K : Int)
      rw [block_start1, h₁, block_window1]; omega)]
  congr 1
  funext a
  refine Fin.ext ?_
  match a with
  | ⟨0, _⟩ =>
    show ((blockDims N K n k wf).start j idx 0 + ((blockDims N K n k wf).window j 0 : Int)).toNat = o₀ + (j 0).val
    rw [block_start0, h₀, block_window0]; omega
  | ⟨1, _⟩ =>
    show ((blockDims N K n k wf).start j idx 1 + ((blockDims N K n k wf).window j 1 : Int)).toNat = o₁ + (j 1).val
    rw [block_start1, h₁, block_window1]; omega

/-- The matrix after the block is written, read at `(r, c)`. -/
theorem block_apply (idx : IVec ⟨1, ![2]⟩ 32) (o₀ o₁ : Nat) (h₀ : (idx (ix1 (0 : Fin 2))).toInt = o₀) (h₁ : (idx (ix1 (1 : Fin 2))).toInt = o₁)
    (hn : o₀ + n ≤ N) (hk : o₁ + k ≤ K) (x : (⟨2, ![N, K]⟩ : Shape).Idx → α) (u : (⟨2, ![n, k]⟩ : Shape).Idx → α) (r : Fin N) (c : Fin K) :
    Host.scatter (blockDims N K n k wf) (fun _ b => b) x idx u (ix2 r c)
      = if h : (o₀ ≤ r.val ∧ r.val < o₀ + n) ∧ (o₁ ≤ c.val ∧ c.val < o₁ + k) then
          u (ix2 ⟨r.val - o₀, by omega⟩ ⟨c.val - o₁, by omega⟩) else x (ix2 r c) := by
  split
  · rename_i h
    refine Idealize.ShloMosaic.Routing.scatter_set_hit _ x idx u _ _ (fun j hj => ?_) (ix2 ⟨r.val - o₀, by omega⟩ ⟨c.val - o₁, by omega⟩) ?_
    · rw [block_result wf idx o₀ o₁ h₀ h₁ hn hk] at hj
      have e := Option.some.inj hj
      have e0 : o₀ + (j 0).val = r.val := congrArg Fin.val (congrFun e 0)
      have e1 : o₁ + (j 1).val = c.val := congrArg Fin.val (congrFun e 1)
      congr 1
      funext a; refine Fin.ext ?_
      match a with
      | ⟨0, _⟩ => show (j 0).val = r.val - o₀; omega
      | ⟨1, _⟩ => show (j 1).val = c.val - o₁; omega
    · rw [block_result wf idx o₀ o₁ h₀ h₁ hn hk]
      congr 1
      funext a; refine Fin.ext ?_
      match a with
      | ⟨0, _⟩ => show o₀ + (r.val - o₀) = r.val; omega
      | ⟨1, _⟩ => show o₁ + (c.val - o₁) = c.val; omega
  · rename_i h
    refine Idealize.ShloMosaic.Routing.scatter_set_miss _ x idx u _ (fun j hj => h ?_)
    rw [block_result wf idx o₀ o₁ h₀ h₁ hn hk] at hj
    have e := Option.some.inj hj
    have e0 : o₀ + (j 0).val = r.val := congrArg Fin.val (congrFun e 0)
    have e1 : o₁ + (j 1).val = c.val := congrArg Fin.val (congrFun e 1)
    have := idx2_lt0 j
    have := idx2_lt1 j
    omega

end Block

end Cert.Proof.V

end
-- ==== Proof.V.Math.lean ====
/- Facts about words and extended reals that the value claim rests on; no program appears here. -/
module

public import Idealize.ShloMosaic.Lib.IdealHost

@[expose] public section

noncomputable section

namespace Cert.Proof.V

open Idealize.ShloMosaic

/-- The row length, as both programs write it. -/
theorem c128 : Ideal.ofBits .f32 1124073472#32 = ((128 : ℝ) : EReal) := by
  simp [Ideal.ofBits, Ideal.ieee, -EReal.coe_mul]; norm_num

/-- The small constant under the root is a positive real. -/
theorem eps_pos : ∃ e : ℝ, 0 < e ∧ Ideal.ofBits .f32 925353388#32 = (e : EReal) := by
  refine ⟨_, ?_, by simp [Ideal.ofBits, Ideal.ieee, -EReal.coe_mul]; rfl⟩
  positivity

/-- The infinity the finiteness tests compare with. -/
theorem inf_top : Ideal.ofBits .f32 0x7F800000#32 = ⊤ := by
  simp [Ideal.ofBits, Ideal.ieee]

theorem mul_self_nonneg' (x : EReal) : 0 ≤ x * x := by
  induction x with
  | bot => simp
  | top => simp
  | coe r => rw [← EReal.coe_mul]; exact EReal.coe_nonneg.mpr (mul_self_nonneg r)

theorem div128_nonneg {x : EReal} (h : 0 ≤ x) : 0 ≤ Ideal.div x (Ideal.ofBits .f32 1124073472#32) := by
  rw [c128, Ideal.div_coe (by norm_num)]
  exact mul_nonneg h (EReal.coe_nonneg.mpr (by norm_num))

/-- Multiplying by the inverse root is dividing by the root, at a positive operand. -/
theorem mul_rsqrt (z v : EReal) (hv : 0 < v) : z * Ideal.rsqrt v = Ideal.div z (Ideal.sqrt v) := by
  induction v with
  | bot => simp at hv
  | top => simp [Ideal.div]
  | coe r =>
    have hr : 0 < r := EReal.coe_pos.mp hv
    have hs : Real.sqrt r ≠ 0 := (Real.sqrt_pos.mpr hr).ne'
    rw [Ideal.rsqrt_coe, Ideal.sqrt_coe, if_neg (not_lt.mpr hr.le), if_neg (not_lt.mpr hr.le), if_neg hr.ne', Ideal.div_coe hs, one_div]

/-- A sum of squares over 128, plus the small constant, is positive. -/
theorem var_pos (f : Fin 128 → EReal) :
    0 < Ideal.div (∑ x, f x * f x) (Ideal.ofBits .f32 1124073472#32) + Ideal.ofBits .f32 925353388#32 := by
  obtain ⟨e, he, ee⟩ := eps_pos
  have h := div128_nonneg (Finset.sum_nonneg fun x (_ : x ∈ Finset.univ) => mul_self_nonneg' (f x))
  rw [ee]
  exact lt_of_lt_of_le (EReal.coe_pos.mpr he) (le_add_of_nonneg_left h)

/-- A row normalised: its mean and its mean squared deviation, over 128 entries. -/
def mean (z : Fin 128 → EReal) : EReal := Ideal.div (∑ x, z x) (Ideal.ofBits .f32 1124073472#32)

def msd (z : Fin 128 → EReal) : EReal :=
  Ideal.div (∑ x, (z x - mean z) * (z x - mean z)) (Ideal.ofBits .f32 1124073472#32)

theorem msd_pos (z : Fin 128 → EReal) : 0 < msd z + Ideal.ofBits .f32 925353388#32 := var_pos fun x => z x - mean z

/-- A word clipped to `[0, n]`. -/
def clip (n : ℕ) (v : BitVec 32) : ℕ := min v.toInt.toNat n

theorem clip_le (n : ℕ) (v : BitVec 32) : clip n v ≤ n := Nat.min_le_right _ _

/-- The programs' clip is `clip`. -/
theorem clip_word (n : ℕ) (hn : n < 2 ^ 31) (v : BitVec 32) :
    IntOp.minsi (BitVec.ofNat 32 n) (IntOp.maxsi 0#32 v) = BitVec.ofNat 32 (clip n v) := by
  have hv := v.isLt
  unfold IntOp.minsi IntOp.maxsi clip
  apply BitVec.eq_of_toNat_eq
  simp only [BitVec.slt_eq_decide, decide_eq_true_eq]
  split <;> split <;> simp only [BitVec.toInt_eq_toNat_cond, BitVec.toNat_ofNat] at * <;> (try split at *) <;> (try split at *) <;> omega

theorem cmp_eq (x y : ℕ) (hx : x < 2 ^ 32) (hy : y < 2 ^ 32) :
    IntOp.cmpi .eq (BitVec.ofNat 32 x) (BitVec.ofNat 32 y) = BitVec.ofBool (decide (x = y)) := by
  unfold IntOp.cmpi
  congr 1
  rw [Bool.eq_iff_iff, beq_iff_eq, decide_eq_true_iff, ← BitVec.toNat_inj, BitVec.toNat_ofNat, BitVec.toNat_ofNat, Nat.mod_eq_of_lt hx, Nat.mod_eq_of_lt hy]

theorem cmp_lane (x a o : ℕ) (hx : x < 128) (ha : a < 128) (ho : o < 128) :
    IntOp.cmpi .eq (BitVec.ofNat 32 x) (IntOp.addi (BitVec.ofNat 32 a) (BitVec.ofNat 32 o)) = BitVec.ofBool (decide (x = a + o)) := by
  rw [IntOp.addi, ← BitVec.ofNat_add, cmp_eq _ _ (by omega) (by omega)]

/-- Five marks joined, as a number: one where any is set. -/
theorem marks (p q r s t : Prop) [Decidable p] [Decidable q] [Decidable r] [Decidable s] [Decidable t] :
    (FloatOps.sitofp .f32 (BitVec.setWidth 32 (IntOp.ori (IntOp.ori (IntOp.ori (IntOp.ori (BitVec.ofBool (decide p)) (BitVec.ofBool (decide q)))
      (BitVec.ofBool (decide r))) (BitVec.ofBool (decide s))) (BitVec.ofBool (decide t)))) : Ideal .f32)
      = if p ∨ q ∨ r ∨ s ∨ t then (1 : EReal) else 0 := by
  have e1 : (FloatOps.sitofp .f32 (1#32) : Ideal .f32) = (1 : EReal) := by
    show (((1#32 : BitVec 32).toInt : ℝ) : EReal) = 1
    norm_num
  have e0 : (FloatOps.sitofp .f32 (0#32) : Ideal .f32) = (0 : EReal) := by
    show (((0#32 : BitVec 32).toInt : ℝ) : EReal) = 0
    norm_num
  by_cases hp : p <;> by_cases hq : q <;> by_cases hr : r <;> by_cases hs : s <;> by_cases ht : t <;>
    simp only [hp, hq, hr, hs, ht, decide_true, decide_false, or_true, true_or, or_false, if_true, if_false] <;> first | exact e1 | exact e0

/-- A sum against five marked lanes is the five entries. -/
theorem sum_marks (f : Fin 128 → EReal) (a b c d e : ℕ) (hab : a < b) (hbc : b < c) (hcd : c < d) (hde : d < e) (he : e < 128) :
    (∑ x : Fin 128, (if x.val = a ∨ x.val = b ∨ x.val = c ∨ x.val = d ∨ x.val = e then (1 : EReal) else 0) * f x)
      = f ⟨a, by omega⟩ + f ⟨b, by omega⟩ + f ⟨c, by omega⟩ + f ⟨d, by omega⟩ + f ⟨e, he⟩ := by
  have h : ∀ x : Fin 128, (if x.val = a ∨ x.val = b ∨ x.val = c ∨ x.val = d ∨ x.val = e then (1 : EReal) else 0) * f x
      = (if x = ⟨a, by omega⟩ then f x else 0) + (if x = ⟨b, by omega⟩ then f x else 0) + (if x = ⟨c, by omega⟩ then f x else 0)
        + (if x = ⟨d, by omega⟩ then f x else 0) + (if x = ⟨e, he⟩ then f x else 0) := by
    intro x
    simp only [Fin.ext_iff]
    by_cases h1 : x.val = a
    · have : x.val ≠ b ∧ x.val ≠ c ∧ x.val ≠ d ∧ x.val ≠ e := by omega
      simp only [this.1, this.2.1, this.2.2.1, this.2.2.2, if_false]; simp [h1]
    by_cases h2 : x.val = b
    · have : x.val ≠ c ∧ x.val ≠ d ∧ x.val ≠ e := by omega
      simp only [h1, this.1, this.2.1, this.2.2, if_false]; simp [h2]
    by_cases h3 : x.val = c
    · have : x.val ≠ d ∧ x.val ≠ e := by omega
      simp only [h1, h2, this.1, this.2, if_false]; simp [h3]
    by_cases h4 : x.val = d
    · have : x.val ≠ e := by omega
      simp only [h1, h2, h3, this, if_false]; simp [h4]
    by_cases h5 : x.val = e
    · simp only [h1, h2, h3, h4, if_false]; simp [h5]
    simp [h1, h2, h3, h4, h5]
  rw [Finset.sum_congr rfl fun x _ => h x]
  simp only [Finset.sum_add_distrib, Finset.sum_ite_eq', Finset.mem_univ, if_true]

/-- A sum of sixteen in four groups of four. -/
theorem sum16 (f : Fin 16 → EReal) :
    (∑ k, f k) = (∑ k : Fin 4, f ⟨k.val, by omega⟩) + (∑ k : Fin 4, f ⟨k.val + 4, by omega⟩) + (∑ k : Fin 4, f ⟨k.val + 8, by omega⟩)
      + (∑ k : Fin 4, f ⟨k.val + 12, by omega⟩) := by
  have h1 := Fin.sum_univ_add (a := 4) (b := 12) f
  have h2 := Fin.sum_univ_add (a := 4) (b := 8) (fun i => f (Fin.natAdd 4 i))
  have h3 := Fin.sum_univ_add (a := 4) (b := 4) (fun i => f (Fin.natAdd 4 (Fin.natAdd 4 i)))
  rw [h1, h2, h3, ← add_assoc, ← add_assoc]
  congr 1

/-- A real factor distributes over a real plus anything. -/
theorem real_mul_add (a e : ℝ) (t : EReal) : (a : EReal) * ((e : EReal) + t) = (a : EReal) * e + (a : EReal) * t := by
  induction t with
  | bot =>
    rcases lt_trichotomy a 0 with h | h | h
    · rw [EReal.add_bot, EReal.coe_mul_bot_of_neg h, ← EReal.coe_mul, EReal.coe_add_top]
    · subst h; simp
    · rw [EReal.add_bot, EReal.coe_mul_bot_of_pos h, EReal.add_bot]
  | top =>
    rcases lt_trichotomy a 0 with h | h | h
    · rw [EReal.coe_add_top, EReal.coe_mul_top_of_neg h, EReal.add_bot]
    · subst h; simp
    · rw [EReal.coe_add_top, EReal.coe_mul_top_of_pos h, ← EReal.coe_mul, EReal.coe_add_top]
  | coe t => norm_cast; exact mul_add a e t

/-- The four products and the bias, scaled separately and together. -/
theorem spread (a : EReal) (p q r s t : EReal) (ha : ∃ x : ℝ, a = x) (hp : ∃ x : ℝ, p = x) (hq : ∃ x : ℝ, q = x) (hr : ∃ x : ℝ, r = x)
    (hs : ∃ x : ℝ, s = x) : a * (p + q + r + s + t) = a * p + a * q + a * r + a * s + a * t := by
  obtain ⟨a, rfl⟩ := ha
  obtain ⟨p, rfl⟩ := hp
  obtain ⟨q, rfl⟩ := hq
  obtain ⟨r, rfl⟩ := hr
  obtain ⟨s, rfl⟩ := hs
  rw [show ((p : EReal) + q + r + s) = ((p + q + r + s : ℝ) : EReal) by push_cast; rfl, real_mul_add]
  congr 1
  norm_cast
  ring

end Cert.Proof.V

end
-- ==== Proof.V.Arrays.lean ====
/- The arrays the kernel's second part reads, as the host's operations leave them, in terms of the launch arguments. -/
module

public import proofs.«01_k».proof.Proof.PI.Frame
public import proofs.«01_k».proof.Proof.V.Index
public import proofs.«01_k».proof.Proof.V.Math

@[expose] public section

noncomputable section

namespace Cert.Proof.V

open Cert.KernelIdeal Cert.KernelIdeal.Gen
open Idealize.ShloMosaic Idealize.SL.Sem
open Cert.Proof.PI (V0 V1 V0_ne V0_v0 opsA gath)

variable (m : (ℓ : Loc nD τ sig) → Buf (Elt Ideal) ℓ) (d : Dev nD)

/-- Argument 0 of the kernel. -/
abbrev k0 : FVec Ideal S1024x200x128 .f32 := m ((d.tc : Thread nD τ).loc main_arg0)
/-- Argument 1 of the kernel. -/
abbrev k1 : IVec S1024x200x4 32 := m ((d.tc : Thread nD τ).loc main_arg1)
/-- Argument 2 of the kernel. -/
abbrev k2 : FVec Ideal S1024x16 .f32 := m ((d.tc : Thread nD τ).loc main_arg2)
/-- Argument 3 of the kernel. -/
abbrev k3 : FVec Ideal S1024x200x8 .f32 := m ((d.tc : Thread nD τ).loc main_arg3)
/-- Argument 4 of the kernel. -/
abbrev k4 : IVec S1024 32 := m ((d.tc : Thread nD τ).loc main_arg4)
/-- Argument 5 of the kernel. -/
abbrev k5 : FVec Ideal S20x4 .f32 := m ((d.tc : Thread nD τ).loc main_arg5)
/-- Argument 6 of the kernel. -/
abbrev k6 : FVec Ideal S12x4 .f32 := m ((d.tc : Thread nD τ).loc main_arg6)
/-- Argument 7 of the kernel. -/
abbrev k7 : FVec Ideal S31x4 .f32 := m ((d.tc : Thread nD τ).loc main_arg7)
/-- Argument 8 of the kernel. -/
abbrev k8 : FVec Ideal S24x4 .f32 := m ((d.tc : Thread nD τ).loc main_arg8)
/-- Argument 9 of the kernel. -/
abbrev k9 : FVec Ideal S16x128 .f32 := m ((d.tc : Thread nD τ).loc main_arg9)
/-- Argument 10 of the kernel. -/
abbrev k10 : FVec Ideal S128 .f32 := m ((d.tc : Thread nD τ).loc main_arg10)
/-- Argument 11 of the kernel. -/
abbrev k11 : FVec Ideal S16x128 .f32 := m ((d.tc : Thread nD τ).loc main_arg11)
/-- Argument 12 of the kernel. -/
abbrev k12 : FVec Ideal S128 .f32 := m ((d.tc : Thread nD τ).loc main_arg12)
/-- Argument 13 of the kernel. -/
abbrev k13 : FVec Ideal S8x128 .f32 := m ((d.tc : Thread nD τ).loc main_arg13)
/-- Argument 14 of the kernel. -/
abbrev k14 : FVec Ideal S128 .f32 := m ((d.tc : Thread nD τ).loc main_arg14)
/-- Argument 15 of the kernel. -/
abbrev k15 : FVec Ideal S128x128 .f32 := m ((d.tc : Thread nD τ).loc main_arg15)
/-- Argument 16 of the kernel. -/
abbrev k16 : FVec Ideal S128 .f32 := m ((d.tc : Thread nD τ).loc main_arg16)
/-- Argument 17 of the kernel. -/
abbrev k17 : FVec Ideal S100000x128 .f32 := m ((d.tc : Thread nD τ).loc main_arg17)
/-- Argument 18 of the kernel. -/
abbrev k18 : FVec Ideal S_ .f32 := m ((d.tc : Thread nD τ).loc main_arg18)
/-- Argument 19 of the kernel. -/
abbrev k19 : FVec Ideal S_ .f32 := m ((d.tc : Thread nD τ).loc main_arg19)
/-- Argument 20 of the kernel. -/
abbrev k20 : FVec Ideal S_ .f32 := m ((d.tc : Thread nD τ).loc main_arg20)
/-- Argument 21 of the kernel. -/
abbrev k21 : FVec Ideal S_ .f32 := m ((d.tc : Thread nD τ).loc main_arg21)
/-- Argument 22 of the kernel. -/
abbrev k22 : FVec Ideal S128 .f32 := m ((d.tc : Thread nD τ).loc main_arg22)
/-- Argument 23 of the kernel. -/
abbrev k23 : FVec Ideal S128 .f32 := m ((d.tc : Thread nD τ).loc main_arg23)

theorem V1_v18 : V1 m d (Proc.devRef .tc main_v18) = shapeCast S204800x128 (k0 m d) shapeCasts_S1024x200x128_S204800x128 := by
  unfold V1 opsA
  after_results_simp
  rw [V0_ne m d _ (by decide)]
  rfl

theorem V1_v19 : V1 m d (Proc.devRef .tc main_v19) = shapeCast S204800x4 (k1 m d) shapeCasts_S1024x200x4_S204800x4 := by
  unfold V1 opsA
  after_results_simp
  rw [V0_ne m d _ (by decide)]
  rfl

theorem V1_v20 : V1 m d (Proc.devRef .tc main_v20) = shapeCast S204800x8 (k3 m d) shapeCasts_S1024x200x8_S204800x8 := by
  unfold V1 opsA
  after_results_simp
  rw [V0_ne m d _ (by decide)]
  rfl

theorem V1_v26 : V1 m d (Proc.devRef .tc main_v26) = shapeCast S1x128 (k10 m d) shapeCasts_S128_S1x128 := by
  unfold V1 opsA
  after_results_simp
  rw [V0_ne m d _ (by decide)]
  rfl

theorem V1_v27 : V1 m d (Proc.devRef .tc main_v27) = shapeCast S1x128 (k12 m d) shapeCasts_S128_S1x128 := by
  unfold V1 opsA
  after_results_simp
  rw [V0_ne m d _ (by decide)]
  rfl

theorem V1_v28 : V1 m d (Proc.devRef .tc main_v28) = shapeCast S1x128 (k14 m d) shapeCasts_S128_S1x128 := by
  unfold V1 opsA
  after_results_simp
  rw [V0_ne m d _ (by decide)]
  rfl

theorem V1_v29 : V1 m d (Proc.devRef .tc main_v29) = shapeCast S1x128 (k16 m d) shapeCasts_S128_S1x128 := by
  unfold V1 opsA
  after_results_simp
  rw [V0_ne m d _ (by decide)]
  rfl

theorem V1_v30 : V1 m d (Proc.devRef .tc main_v30) = shapeCast S1x128 (k22 m d) shapeCasts_S128_S1x128 := by
  unfold V1 opsA
  after_results_simp
  rw [V0_ne m d _ (by decide)]
  rfl

theorem V1_v31 : V1 m d (Proc.devRef .tc main_v31) = shapeCast S1x128 (k23 m d) shapeCasts_S128_S1x128 := by
  unfold V1 opsA
  after_results_simp
  rw [V0_ne m d _ (by decide)]
  rfl

/-- A stretch of the host's operations. -/
def hz : List (HloOp τ sig (Elt Ideal)) :=
  [StableHlo.nullary main_cst (constant (F := Ideal) S_ .f32 0x00000000#32),
   StableHlo.unary main_cst main_v1 (broadcastInDim S88x16 ![] bcast_S_S88x16 : (⟨S_, .f32⟩ : BufTy).Contents (Elt Ideal) → (⟨S88x16, .f32⟩ : BufTy).Contents (Elt Ideal))]

/-- A stretch of the host's operations. -/
def ha0 : List (HloOp τ sig (Elt Ideal)) :=
  [StableHlo.nullary main_c (constantI S_ 32 0#32),
   StableHlo.unary main_c main_v2 (broadcastInDim S1 ![] bcast_S_S1 : (⟨S_, .i32⟩ : BufTy).Contents (Elt Ideal) → (⟨S1, .i32⟩ : BufTy).Contents (Elt Ideal)),
   StableHlo.nullary main_c_0 (constantI S_ 32 0#32),
   StableHlo.unary main_c_0 main_v3 (broadcastInDim S1 ![] bcast_S_S1 : (⟨S_, .i32⟩ : BufTy).Contents (Elt Ideal) → (⟨S1, .i32⟩ : BufTy).Contents (Elt Ideal))]

/-- A stretch of the host's operations. -/
def hb0 : List (HloOp τ sig (Elt Ideal)) :=
  [StableHlo.binary main_v2 main_v3 main_v4 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
   StableHlo.ternary main_v1 main_v4 main_arg5 main_v5 ((fun x i u => Host.scatter scatter_S88x16_S2_S20x4_01_n_01_0 (fun _ b => b) x i u) : (⟨S88x16, .f32⟩ : BufTy).Contents (Elt Ideal) → (⟨S2, .i32⟩ : BufTy).Contents (Elt Ideal) → (⟨S20x4, .f32⟩ : BufTy).Contents (Elt Ideal) → (⟨S88x16, .f32⟩ : BufTy).Contents (Elt Ideal))]

/-- A stretch of the host's operations. -/
def ha1 : List (HloOp τ sig (Elt Ideal)) :=
  [StableHlo.nullary main_c_1 (constantI S_ 32 20#32),
   StableHlo.unary main_c_1 main_v6 (broadcastInDim S1 ![] bcast_S_S1 : (⟨S_, .i32⟩ : BufTy).Contents (Elt Ideal) → (⟨S1, .i32⟩ : BufTy).Contents (Elt Ideal)),
   StableHlo.nullary main_c_2 (constantI S_ 32 4#32),
   StableHlo.unary main_c_2 main_v7 (broadcastInDim S1 ![] bcast_S_S1 : (⟨S_, .i32⟩ : BufTy).Contents (Elt Ideal) → (⟨S1, .i32⟩ : BufTy).Contents (Elt Ideal))]

/-- A stretch of the host's operations. -/
def hb1 : List (HloOp τ sig (Elt Ideal)) :=
  [StableHlo.binary main_v6 main_v7 main_v8 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
   StableHlo.ternary main_v5 main_v8 main_arg6 main_v9 ((fun x i u => Host.scatter scatter_S88x16_S2_S12x4_01_n_01_0 (fun _ b => b) x i u) : (⟨S88x16, .f32⟩ : BufTy).Contents (Elt Ideal) → (⟨S2, .i32⟩ : BufTy).Contents (Elt Ideal) → (⟨S12x4, .f32⟩ : BufTy).Contents (Elt Ideal) → (⟨S88x16, .f32⟩ : BufTy).Contents (Elt Ideal))]

/-- A stretch of the host's operations. -/
def ha2 : List (HloOp τ sig (Elt Ideal)) :=
  [StableHlo.nullary main_c_3 (constantI S_ 32 32#32),
   StableHlo.unary main_c_3 main_v10 (broadcastInDim S1 ![] bcast_S_S1 : (⟨S_, .i32⟩ : BufTy).Contents (Elt Ideal) → (⟨S1, .i32⟩ : BufTy).Contents (Elt Ideal)),
   StableHlo.nullary main_c_4 (constantI S_ 32 8#32),
   StableHlo.unary main_c_4 main_v11 (broadcastInDim S1 ![] bcast_S_S1 : (⟨S_, .i32⟩ : BufTy).Contents (Elt Ideal) → (⟨S1, .i32⟩ : BufTy).Contents (Elt Ideal))]

/-- A stretch of the host's operations. -/
def hb2 : List (HloOp τ sig (Elt Ideal)) :=
  [StableHlo.binary main_v10 main_v11 main_v12 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
   StableHlo.ternary main_v9 main_v12 main_arg7 main_v13 ((fun x i u => Host.scatter scatter_S88x16_S2_S31x4_01_n_01_0 (fun _ b => b) x i u) : (⟨S88x16, .f32⟩ : BufTy).Contents (Elt Ideal) → (⟨S2, .i32⟩ : BufTy).Contents (Elt Ideal) → (⟨S31x4, .f32⟩ : BufTy).Contents (Elt Ideal) → (⟨S88x16, .f32⟩ : BufTy).Contents (Elt Ideal))]

/-- A stretch of the host's operations. -/
def ha3 : List (HloOp τ sig (Elt Ideal)) :=
  [StableHlo.nullary main_c_5 (constantI S_ 32 63#32),
   StableHlo.unary main_c_5 main_v14 (broadcastInDim S1 ![] bcast_S_S1 : (⟨S_, .i32⟩ : BufTy).Contents (Elt Ideal) → (⟨S1, .i32⟩ : BufTy).Contents (Elt Ideal)),
   StableHlo.nullary main_c_6 (constantI S_ 32 12#32),
   StableHlo.unary main_c_6 main_v15 (broadcastInDim S1 ![] bcast_S_S1 : (⟨S_, .i32⟩ : BufTy).Contents (Elt Ideal) → (⟨S1, .i32⟩ : BufTy).Contents (Elt Ideal))]

/-- A stretch of the host's operations. -/
def hb3 : List (HloOp τ sig (Elt Ideal)) :=
  [StableHlo.binary main_v14 main_v15 main_v16 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
   StableHlo.ternary main_v13 main_v16 main_arg8 main_v17 ((fun x i u => Host.scatter scatter_S88x16_S2_S24x4_01_n_01_0 (fun _ b => b) x i u) : (⟨S88x16, .f32⟩ : BufTy).Contents (Elt Ideal) → (⟨S2, .i32⟩ : BufTy).Contents (Elt Ideal) → (⟨S24x4, .f32⟩ : BufTy).Contents (Elt Ideal) → (⟨S88x16, .f32⟩ : BufTy).Contents (Elt Ideal))]

/-- A stretch of the host's operations. -/
def hr : List (HloOp τ sig (Elt Ideal)) :=
  [StableHlo.reshape main_arg0 main_v18 (rfl : (.f32 : EltTy) = .f32) shapeCasts_S1024x200x128_S204800x128,
   StableHlo.reshape main_arg1 main_v19 (rfl : (.i32 : EltTy) = .i32) shapeCasts_S1024x200x4_S204800x4,
   StableHlo.reshape main_arg3 main_v20 (rfl : (.f32 : EltTy) = .f32) shapeCasts_S1024x200x8_S204800x8,
   StableHlo.unary main_arg18 main_v21 (broadcastInDim S1 ![] bcast_S_S1 : (⟨S_, .f32⟩ : BufTy).Contents (Elt Ideal) → (⟨S1, .f32⟩ : BufTy).Contents (Elt Ideal)),
   StableHlo.unary main_arg19 main_v22 (broadcastInDim S1 ![] bcast_S_S1 : (⟨S_, .f32⟩ : BufTy).Contents (Elt Ideal) → (⟨S1, .f32⟩ : BufTy).Contents (Elt Ideal)),
   StableHlo.unary main_arg20 main_v23 (broadcastInDim S1 ![] bcast_S_S1 : (⟨S_, .f32⟩ : BufTy).Contents (Elt Ideal) → (⟨S1, .f32⟩ : BufTy).Contents (Elt Ideal)),
   StableHlo.unary main_arg21 main_v24 (broadcastInDim S1 ![] bcast_S_S1 : (⟨S_, .f32⟩ : BufTy).Contents (Elt Ideal) → (⟨S1, .f32⟩ : BufTy).Contents (Elt Ideal))]

/-- A stretch of the host's operations. -/
def hn : List (HloOp τ sig (Elt Ideal)) :=
  [StableHlo.nary ![main_v21, main_v22, main_v23, main_v24] main_v25 (fun u => (concatenate S4 0 [⟨S1, (u 0 : (⟨S1, .f32⟩ : BufTy).Contents (Elt Ideal))⟩, ⟨S1, (u 1 : (⟨S1, .f32⟩ : BufTy).Contents (Elt Ideal))⟩, ⟨S1, (u 2 : (⟨S1, .f32⟩ : BufTy).Contents (Elt Ideal))⟩, ⟨S1, (u 3 : (⟨S1, .f32⟩ : BufTy).Contents (Elt Ideal))⟩] concatenates_S1_S1_S1_S1_S4_d0 : (⟨S4, .f32⟩ : BufTy).Contents (Elt Ideal)))]

/-- A stretch of the host's operations. -/
def ht : List (HloOp τ sig (Elt Ideal)) :=
  [StableHlo.reshape main_arg10 main_v26 (rfl : (.f32 : EltTy) = .f32) shapeCasts_S128_S1x128,
   StableHlo.reshape main_arg12 main_v27 (rfl : (.f32 : EltTy) = .f32) shapeCasts_S128_S1x128,
   StableHlo.reshape main_arg14 main_v28 (rfl : (.f32 : EltTy) = .f32) shapeCasts_S128_S1x128,
   StableHlo.reshape main_arg16 main_v29 (rfl : (.f32 : EltTy) = .f32) shapeCasts_S128_S1x128,
   StableHlo.reshape main_arg22 main_v30 (rfl : (.f32 : EltTy) = .f32) shapeCasts_S128_S1x128,
   StableHlo.reshape main_arg23 main_v31 (rfl : (.f32 : EltTy) = .f32) shapeCasts_S128_S1x128]

theorem opsA_split : (opsA : List (HloOp τ sig (Elt Ideal))) = hz ++ (ha0 ++ (hb0 ++ (ha1 ++ (hb1 ++ (ha2 ++ (hb2 ++ (ha3 ++ (hb3 ++ (hr ++ (hn ++ (ht))))))))))) := rfl

/-- Two words side by side. -/
def pair (a b : IVec S1 32) : IVec S2 32 := concatenate S2 0 [⟨S1, a⟩, ⟨S1, b⟩] concatenates_S1_S1_S2_d0

/-- Four numbers side by side. -/
def quad (a b c e : FVec Ideal S1 .f32) : FVec Ideal S4 .f32 := concatenate S4 0 [⟨S1, a⟩, ⟨S1, b⟩, ⟨S1, c⟩, ⟨S1, e⟩] concatenates_S1_S1_S1_S1_S4_d0

variable (W : Valuation τ sig (Elt Ideal))

theorem hz_v1 : StableHlo.after hz W (Proc.devRef .tc main_v1) = broadcastInDim S88x16 ![] bcast_S_S88x16 (constant (F := Ideal) S_ .f32 0x00000000#32) := by
  unfold hz; after_results_simp

theorem hn_v25 : StableHlo.after hn W (Proc.devRef .tc main_v25)
    = quad (W (Proc.devRef .tc main_v21)) (W (Proc.devRef .tc main_v22)) (W (Proc.devRef .tc main_v23)) (W (Proc.devRef .tc main_v24)) := by
  unfold hn
  rw [StableHlo.after_cons, StableHlo.after_nil, StableHlo.nary_result]
  rfl

theorem ha0_v2 : StableHlo.after ha0 W (Proc.devRef .tc main_v2) = broadcastInDim S1 ![] bcast_S_S1 (constantI S_ 32 0#32) := by
  unfold ha0; after_results_simp

theorem ha0_v3 : StableHlo.after ha0 W (Proc.devRef .tc main_v3) = broadcastInDim S1 ![] bcast_S_S1 (constantI S_ 32 0#32) := by
  unfold ha0; after_results_simp

theorem hb0_v5 : StableHlo.after hb0 W (Proc.devRef .tc main_v5)
    = Host.scatter scatter_S88x16_S2_S20x4_01_n_01_0 (fun _ b => b) (W (Proc.devRef .tc main_v1) : FVec Ideal S88x16 .f32) (pair (W (Proc.devRef .tc main_v2)) (W (Proc.devRef .tc main_v3))) (W (Proc.devRef .tc main_arg5) : FVec Ideal S20x4 .f32) := by
  unfold hb0; after_results_simp; rfl

theorem ha1_v6 : StableHlo.after ha1 W (Proc.devRef .tc main_v6) = broadcastInDim S1 ![] bcast_S_S1 (constantI S_ 32 20#32) := by
  unfold ha1; after_results_simp

theorem ha1_v7 : StableHlo.after ha1 W (Proc.devRef .tc main_v7) = broadcastInDim S1 ![] bcast_S_S1 (constantI S_ 32 4#32) := by
  unfold ha1; after_results_simp

theorem hb1_v9 : StableHlo.after hb1 W (Proc.devRef .tc main_v9)
    = Host.scatter scatter_S88x16_S2_S12x4_01_n_01_0 (fun _ b => b) (W (Proc.devRef .tc main_v5) : FVec Ideal S88x16 .f32) (pair (W (Proc.devRef .tc main_v6)) (W (Proc.devRef .tc main_v7))) (W (Proc.devRef .tc main_arg6) : FVec Ideal S12x4 .f32) := by
  unfold hb1; after_results_simp; rfl

theorem ha2_v10 : StableHlo.after ha2 W (Proc.devRef .tc main_v10) = broadcastInDim S1 ![] bcast_S_S1 (constantI S_ 32 32#32) := by
  unfold ha2; after_results_simp

theorem ha2_v11 : StableHlo.after ha2 W (Proc.devRef .tc main_v11) = broadcastInDim S1 ![] bcast_S_S1 (constantI S_ 32 8#32) := by
  unfold ha2; after_results_simp

theorem hb2_v13 : StableHlo.after hb2 W (Proc.devRef .tc main_v13)
    = Host.scatter scatter_S88x16_S2_S31x4_01_n_01_0 (fun _ b => b) (W (Proc.devRef .tc main_v9) : FVec Ideal S88x16 .f32) (pair (W (Proc.devRef .tc main_v10)) (W (Proc.devRef .tc main_v11))) (W (Proc.devRef .tc main_arg7) : FVec Ideal S31x4 .f32) := by
  unfold hb2; after_results_simp; rfl

theorem ha3_v14 : StableHlo.after ha3 W (Proc.devRef .tc main_v14) = broadcastInDim S1 ![] bcast_S_S1 (constantI S_ 32 63#32) := by
  unfold ha3; after_results_simp

theorem ha3_v15 : StableHlo.after ha3 W (Proc.devRef .tc main_v15) = broadcastInDim S1 ![] bcast_S_S1 (constantI S_ 32 12#32) := by
  unfold ha3; after_results_simp

theorem hb3_v17 : StableHlo.after hb3 W (Proc.devRef .tc main_v17)
    = Host.scatter scatter_S88x16_S2_S24x4_01_n_01_0 (fun _ b => b) (W (Proc.devRef .tc main_v13) : FVec Ideal S88x16 .f32) (pair (W (Proc.devRef .tc main_v14)) (W (Proc.devRef .tc main_v15))) (W (Proc.devRef .tc main_arg8) : FVec Ideal S24x4 .f32) := by
  unfold hb3; after_results_simp; rfl

theorem hr_keep_v17 : StableHlo.after hr W (Proc.devRef .tc main_v17) = W (Proc.devRef .tc main_v17) := by
  unfold hr; after_results_simp

theorem hn_keep_v17 : StableHlo.after hn W (Proc.devRef .tc main_v17) = W (Proc.devRef .tc main_v17) := by
  unfold hn; after_results_simp

theorem ht_keep_v17 : StableHlo.after ht W (Proc.devRef .tc main_v17) = W (Proc.devRef .tc main_v17) := by
  unfold ht; after_results_simp

theorem ht_keep_v25 : StableHlo.after ht W (Proc.devRef .tc main_v25) = W (Proc.devRef .tc main_v25) := by
  unfold ht; after_results_simp

theorem ha0_keep_v1 : StableHlo.after ha0 W (Proc.devRef .tc main_v1) = W (Proc.devRef .tc main_v1) := by
  unfold ha0; after_results_simp

theorem hz_keep_arg5 : StableHlo.after hz W (Proc.devRef .tc main_arg5) = W (Proc.devRef .tc main_arg5) := by
  unfold hz; after_results_simp

theorem ha0_keep_arg5 : StableHlo.after ha0 W (Proc.devRef .tc main_arg5) = W (Proc.devRef .tc main_arg5) := by
  unfold ha0; after_results_simp

theorem ha1_keep_v5 : StableHlo.after ha1 W (Proc.devRef .tc main_v5) = W (Proc.devRef .tc main_v5) := by
  unfold ha1; after_results_simp

theorem hz_keep_arg6 : StableHlo.after hz W (Proc.devRef .tc main_arg6) = W (Proc.devRef .tc main_arg6) := by
  unfold hz; after_results_simp

theorem ha0_keep_arg6 : StableHlo.after ha0 W (Proc.devRef .tc main_arg6) = W (Proc.devRef .tc main_arg6) := by
  unfold ha0; after_results_simp

theorem hb0_keep_arg6 : StableHlo.after hb0 W (Proc.devRef .tc main_arg6) = W (Proc.devRef .tc main_arg6) := by
  unfold hb0; after_results_simp

theorem ha1_keep_arg6 : StableHlo.after ha1 W (Proc.devRef .tc main_arg6) = W (Proc.devRef .tc main_arg6) := by
  unfold ha1; after_results_simp

theorem ha2_keep_v9 : StableHlo.after ha2 W (Proc.devRef .tc main_v9) = W (Proc.devRef .tc main_v9) := by
  unfold ha2; after_results_simp

theorem hz_keep_arg7 : StableHlo.after hz W (Proc.devRef .tc main_arg7) = W (Proc.devRef .tc main_arg7) := by
  unfold hz; after_results_simp

theorem ha0_keep_arg7 : StableHlo.after ha0 W (Proc.devRef .tc main_arg7) = W (Proc.devRef .tc main_arg7) := by
  unfold ha0; after_results_simp

theorem hb0_keep_arg7 : StableHlo.after hb0 W (Proc.devRef .tc main_arg7) = W (Proc.devRef .tc main_arg7) := by
  unfold hb0; after_results_simp

theorem ha1_keep_arg7 : StableHlo.after ha1 W (Proc.devRef .tc main_arg7) = W (Proc.devRef .tc main_arg7) := by
  unfold ha1; after_results_simp

theorem hb1_keep_arg7 : StableHlo.after hb1 W (Proc.devRef .tc main_arg7) = W (Proc.devRef .tc main_arg7) := by
  unfold hb1; after_results_simp

theorem ha2_keep_arg7 : StableHlo.after ha2 W (Proc.devRef .tc main_arg7) = W (Proc.devRef .tc main_arg7) := by
  unfold ha2; after_results_simp

theorem ha3_keep_v13 : StableHlo.after ha3 W (Proc.devRef .tc main_v13) = W (Proc.devRef .tc main_v13) := by
  unfold ha3; after_results_simp

theorem hz_keep_arg8 : StableHlo.after hz W (Proc.devRef .tc main_arg8) = W (Proc.devRef .tc main_arg8) := by
  unfold hz; after_results_simp

theorem ha0_keep_arg8 : StableHlo.after ha0 W (Proc.devRef .tc main_arg8) = W (Proc.devRef .tc main_arg8) := by
  unfold ha0; after_results_simp

theorem hb0_keep_arg8 : StableHlo.after hb0 W (Proc.devRef .tc main_arg8) = W (Proc.devRef .tc main_arg8) := by
  unfold hb0; after_results_simp

theorem ha1_keep_arg8 : StableHlo.after ha1 W (Proc.devRef .tc main_arg8) = W (Proc.devRef .tc main_arg8) := by
  unfold ha1; after_results_simp

theorem hb1_keep_arg8 : StableHlo.after hb1 W (Proc.devRef .tc main_arg8) = W (Proc.devRef .tc main_arg8) := by
  unfold hb1; after_results_simp

theorem ha2_keep_arg8 : StableHlo.after ha2 W (Proc.devRef .tc main_arg8) = W (Proc.devRef .tc main_arg8) := by
  unfold ha2; after_results_simp

theorem hb2_keep_arg8 : StableHlo.after hb2 W (Proc.devRef .tc main_arg8) = W (Proc.devRef .tc main_arg8) := by
  unfold hb2; after_results_simp

theorem ha3_keep_arg8 : StableHlo.after ha3 W (Proc.devRef .tc main_arg8) = W (Proc.devRef .tc main_arg8) := by
  unfold ha3; after_results_simp

theorem hr_v21 : StableHlo.after hr W (Proc.devRef .tc main_v21) = broadcastInDim S1 ![] bcast_S_S1 (W (Proc.devRef .tc main_arg18) : FVec Ideal S_ .f32) := by
  unfold hr; after_results_simp

theorem hz_keep_arg18 : StableHlo.after hz W (Proc.devRef .tc main_arg18) = W (Proc.devRef .tc main_arg18) := by
  unfold hz; after_results_simp

theorem ha0_keep_arg18 : StableHlo.after ha0 W (Proc.devRef .tc main_arg18) = W (Proc.devRef .tc main_arg18) := by
  unfold ha0; after_results_simp

theorem hb0_keep_arg18 : StableHlo.after hb0 W (Proc.devRef .tc main_arg18) = W (Proc.devRef .tc main_arg18) := by
  unfold hb0; after_results_simp

theorem ha1_keep_arg18 : StableHlo.after ha1 W (Proc.devRef .tc main_arg18) = W (Proc.devRef .tc main_arg18) := by
  unfold ha1; after_results_simp

theorem hb1_keep_arg18 : StableHlo.after hb1 W (Proc.devRef .tc main_arg18) = W (Proc.devRef .tc main_arg18) := by
  unfold hb1; after_results_simp

theorem ha2_keep_arg18 : StableHlo.after ha2 W (Proc.devRef .tc main_arg18) = W (Proc.devRef .tc main_arg18) := by
  unfold ha2; after_results_simp

theorem hb2_keep_arg18 : StableHlo.after hb2 W (Proc.devRef .tc main_arg18) = W (Proc.devRef .tc main_arg18) := by
  unfold hb2; after_results_simp

theorem ha3_keep_arg18 : StableHlo.after ha3 W (Proc.devRef .tc main_arg18) = W (Proc.devRef .tc main_arg18) := by
  unfold ha3; after_results_simp

theorem hb3_keep_arg18 : StableHlo.after hb3 W (Proc.devRef .tc main_arg18) = W (Proc.devRef .tc main_arg18) := by
  unfold hb3; after_results_simp

theorem hr_v22 : StableHlo.after hr W (Proc.devRef .tc main_v22) = broadcastInDim S1 ![] bcast_S_S1 (W (Proc.devRef .tc main_arg19) : FVec Ideal S_ .f32) := by
  unfold hr; after_results_simp

theorem hz_keep_arg19 : StableHlo.after hz W (Proc.devRef .tc main_arg19) = W (Proc.devRef .tc main_arg19) := by
  unfold hz; after_results_simp

theorem ha0_keep_arg19 : StableHlo.after ha0 W (Proc.devRef .tc main_arg19) = W (Proc.devRef .tc main_arg19) := by
  unfold ha0; after_results_simp

theorem hb0_keep_arg19 : StableHlo.after hb0 W (Proc.devRef .tc main_arg19) = W (Proc.devRef .tc main_arg19) := by
  unfold hb0; after_results_simp

theorem ha1_keep_arg19 : StableHlo.after ha1 W (Proc.devRef .tc main_arg19) = W (Proc.devRef .tc main_arg19) := by
  unfold ha1; after_results_simp

theorem hb1_keep_arg19 : StableHlo.after hb1 W (Proc.devRef .tc main_arg19) = W (Proc.devRef .tc main_arg19) := by
  unfold hb1; after_results_simp

theorem ha2_keep_arg19 : StableHlo.after ha2 W (Proc.devRef .tc main_arg19) = W (Proc.devRef .tc main_arg19) := by
  unfold ha2; after_results_simp

theorem hb2_keep_arg19 : StableHlo.after hb2 W (Proc.devRef .tc main_arg19) = W (Proc.devRef .tc main_arg19) := by
  unfold hb2; after_results_simp

theorem ha3_keep_arg19 : StableHlo.after ha3 W (Proc.devRef .tc main_arg19) = W (Proc.devRef .tc main_arg19) := by
  unfold ha3; after_results_simp

theorem hb3_keep_arg19 : StableHlo.after hb3 W (Proc.devRef .tc main_arg19) = W (Proc.devRef .tc main_arg19) := by
  unfold hb3; after_results_simp

theorem hr_v23 : StableHlo.after hr W (Proc.devRef .tc main_v23) = broadcastInDim S1 ![] bcast_S_S1 (W (Proc.devRef .tc main_arg20) : FVec Ideal S_ .f32) := by
  unfold hr; after_results_simp

theorem hz_keep_arg20 : StableHlo.after hz W (Proc.devRef .tc main_arg20) = W (Proc.devRef .tc main_arg20) := by
  unfold hz; after_results_simp

theorem ha0_keep_arg20 : StableHlo.after ha0 W (Proc.devRef .tc main_arg20) = W (Proc.devRef .tc main_arg20) := by
  unfold ha0; after_results_simp

theorem hb0_keep_arg20 : StableHlo.after hb0 W (Proc.devRef .tc main_arg20) = W (Proc.devRef .tc main_arg20) := by
  unfold hb0; after_results_simp

theorem ha1_keep_arg20 : StableHlo.after ha1 W (Proc.devRef .tc main_arg20) = W (Proc.devRef .tc main_arg20) := by
  unfold ha1; after_results_simp

theorem hb1_keep_arg20 : StableHlo.after hb1 W (Proc.devRef .tc main_arg20) = W (Proc.devRef .tc main_arg20) := by
  unfold hb1; after_results_simp

theorem ha2_keep_arg20 : StableHlo.after ha2 W (Proc.devRef .tc main_arg20) = W (Proc.devRef .tc main_arg20) := by
  unfold ha2; after_results_simp

theorem hb2_keep_arg20 : StableHlo.after hb2 W (Proc.devRef .tc main_arg20) = W (Proc.devRef .tc main_arg20) := by
  unfold hb2; after_results_simp

theorem ha3_keep_arg20 : StableHlo.after ha3 W (Proc.devRef .tc main_arg20) = W (Proc.devRef .tc main_arg20) := by
  unfold ha3; after_results_simp

theorem hb3_keep_arg20 : StableHlo.after hb3 W (Proc.devRef .tc main_arg20) = W (Proc.devRef .tc main_arg20) := by
  unfold hb3; after_results_simp

theorem hr_v24 : StableHlo.after hr W (Proc.devRef .tc main_v24) = broadcastInDim S1 ![] bcast_S_S1 (W (Proc.devRef .tc main_arg21) : FVec Ideal S_ .f32) := by
  unfold hr; after_results_simp

theorem hz_keep_arg21 : StableHlo.after hz W (Proc.devRef .tc main_arg21) = W (Proc.devRef .tc main_arg21) := by
  unfold hz; after_results_simp

theorem ha0_keep_arg21 : StableHlo.after ha0 W (Proc.devRef .tc main_arg21) = W (Proc.devRef .tc main_arg21) := by
  unfold ha0; after_results_simp

theorem hb0_keep_arg21 : StableHlo.after hb0 W (Proc.devRef .tc main_arg21) = W (Proc.devRef .tc main_arg21) := by
  unfold hb0; after_results_simp

theorem ha1_keep_arg21 : StableHlo.after ha1 W (Proc.devRef .tc main_arg21) = W (Proc.devRef .tc main_arg21) := by
  unfold ha1; after_results_simp

theorem hb1_keep_arg21 : StableHlo.after hb1 W (Proc.devRef .tc main_arg21) = W (Proc.devRef .tc main_arg21) := by
  unfold hb1; after_results_simp

theorem ha2_keep_arg21 : StableHlo.after ha2 W (Proc.devRef .tc main_arg21) = W (Proc.devRef .tc main_arg21) := by
  unfold ha2; after_results_simp

theorem hb2_keep_arg21 : StableHlo.after hb2 W (Proc.devRef .tc main_arg21) = W (Proc.devRef .tc main_arg21) := by
  unfold hb2; after_results_simp

theorem ha3_keep_arg21 : StableHlo.after ha3 W (Proc.devRef .tc main_arg21) = W (Proc.devRef .tc main_arg21) := by
  unfold ha3; after_results_simp

theorem hb3_keep_arg21 : StableHlo.after hb3 W (Proc.devRef .tc main_arg21) = W (Proc.devRef .tc main_arg21) := by
  unfold hb3; after_results_simp

/-- The four multipliers, side by side. -/
theorem V1_v25 : V1 m d (Proc.devRef .tc main_v25) = quad (broadcastInDim S1 ![] bcast_S_S1 (k18 m d)) (broadcastInDim S1 ![] bcast_S_S1 (k19 m d))
    (broadcastInDim S1 ![] bcast_S_S1 (k20 m d)) (broadcastInDim S1 ![] bcast_S_S1 (k21 m d)) := by
  unfold V1
  rw [opsA_split]
  simp only [StableHlo.after_append]
  rw [ht_keep_v25, hn_v25, hr_v21, hr_v22, hr_v23, hr_v24]
  rw [hb3_keep_arg18, ha3_keep_arg18, hb2_keep_arg18, ha2_keep_arg18, hb1_keep_arg18, ha1_keep_arg18, hb0_keep_arg18, ha0_keep_arg18, hz_keep_arg18, hb3_keep_arg19, ha3_keep_arg19, hb2_keep_arg19, ha2_keep_arg19, hb1_keep_arg19, ha1_keep_arg19, hb0_keep_arg19, ha0_keep_arg19, hz_keep_arg19, hb3_keep_arg20, ha3_keep_arg20, hb2_keep_arg20, ha2_keep_arg20, hb1_keep_arg20, ha1_keep_arg20, hb0_keep_arg20, ha0_keep_arg20, hz_keep_arg20, hb3_keep_arg21, ha3_keep_arg21, hb2_keep_arg21, ha2_keep_arg21, hb1_keep_arg21, ha1_keep_arg21, hb0_keep_arg21, ha0_keep_arg21, hz_keep_arg21]
  rw [V0_ne m d _ (by decide), V0_ne m d _ (by decide), V0_ne m d _ (by decide), V0_ne m d _ (by decide)]

/-- A corner's two words. -/
def corner (a b : BitVec 32) : IVec S2 32 := pair (broadcastInDim S1 ![] bcast_S_S1 (constantI S_ 32 a)) (broadcastInDim S1 ![] bcast_S_S1 (constantI S_ 32 b))

/-- The spread table: the four time tables written into zeros at their corners. -/
theorem V1_v17 : V1 m d (Proc.devRef .tc main_v17)
    = Host.scatter scatter_S88x16_S2_S24x4_01_n_01_0 (fun _ b => b)
        (Host.scatter scatter_S88x16_S2_S31x4_01_n_01_0 (fun _ b => b)
          (Host.scatter scatter_S88x16_S2_S12x4_01_n_01_0 (fun _ b => b)
            (Host.scatter scatter_S88x16_S2_S20x4_01_n_01_0 (fun _ b => b)
              (broadcastInDim S88x16 ![] bcast_S_S88x16 (constant (F := Ideal) S_ .f32 0x00000000#32)) (corner 0#32 0#32) (k5 m d))
            (corner 20#32 4#32) (k6 m d))
          (corner 32#32 8#32) (k7 m d))
        (corner 63#32 12#32) (k8 m d) := by
  unfold V1 corner
  rw [opsA_split]
  simp only [StableHlo.after_append]
  rw [ht_keep_v17, hn_keep_v17, hr_keep_v17, hb3_v17, ha3_v14, ha3_v15, ha3_keep_v13, hb2_v13, ha2_v10, ha2_v11, ha2_keep_v9, hb1_v9, ha1_v6, ha1_v7,
    ha1_keep_v5, hb0_v5, ha0_v2, ha0_v3, ha0_keep_v1, hz_v1]
  rw [ha3_keep_arg8, hb2_keep_arg8, ha2_keep_arg8, hb1_keep_arg8, ha1_keep_arg8, hb0_keep_arg8, ha0_keep_arg8, hz_keep_arg8, ha2_keep_arg7, hb1_keep_arg7, ha1_keep_arg7, hb0_keep_arg7, ha0_keep_arg7, hz_keep_arg7, ha1_keep_arg6, hb0_keep_arg6, ha0_keep_arg6, hz_keep_arg6, ha0_keep_arg5, hz_keep_arg5]
  rw [V0_ne m d _ (by decide), V0_ne m d _ (by decide), V0_ne m d _ (by decide), V0_ne m d _ (by decide)]
  rfl

/-- The gathered station rows. -/
theorem V1_v0 : V1 m d (Proc.devRef .tc main_v0) = gath m d := by
  unfold V1 opsA
  after_results_simp
  exact V0_v0 m d

end Cert.Proof.V

end
-- ==== Proof.V.Blocks.lean ====
/- The blocks the kernel's body reads at a point of its grid, in terms of the launch arguments. -/
module

public import proofs.«01_k».proof.Proof.V.Arrays
public import Idealize.ShloMosaic.Lib.Pipeline.ValueKit

@[expose] public section

noncomputable section

namespace Cert.Proof.V

open Cert.KernelIdeal Cert.KernelIdeal.Gen
open Idealize.ShloMosaic Idealize.SL.Sem
open Cert.Proof.PI (V0 V1 V0_ne V0_v0 opsA gath iblk V1_arg2 V1_arg9 V1_arg11 V1_arg13 V1_arg15)

variable (m : (ℓ : Loc nD τ sig) → Buf (Elt Ideal) ℓ) (d : Dev nD) (t : Fin cfg1.N)

theorem at0 : ∀ t : Fin cfg1.N, win1_0.index t = ![t.val, 0] :=
  (by decide +kernel : ∀ t : Fin grid1.N, _)

theorem at1 : ∀ t : Fin cfg1.N, win1_1.index t = ![t.val, 0] :=
  (by decide +kernel : ∀ t : Fin grid1.N, _)

theorem at2 : ∀ t : Fin cfg1.N, win1_2.index t = ![t.val, 0] :=
  (by decide +kernel : ∀ t : Fin grid1.N, _)

theorem at3 : ∀ t : Fin cfg1.N, win1_3.index t = ![t.val, 0] :=
  (by decide +kernel : ∀ t : Fin grid1.N, _)

theorem at4 : ∀ t : Fin cfg1.N, win1_4.index t = ![t.val, 0] :=
  (by decide +kernel : ∀ t : Fin grid1.N, _)

theorem at17 : ∀ t : Fin cfg1.N, win1_17.index t = ![t.val, 0] :=
  (by decide +kernel : ∀ t : Fin grid1.N, _)

theorem at5 : ∀ t : Fin cfg1.N, win1_5.index t = ![0, 0] :=
  (by decide +kernel : ∀ t : Fin grid1.N, _)

theorem at6 : ∀ t : Fin cfg1.N, win1_6.index t = ![0, 0] :=
  (by decide +kernel : ∀ t : Fin grid1.N, _)

theorem at7 : ∀ t : Fin cfg1.N, win1_7.index t = ![0, 0] :=
  (by decide +kernel : ∀ t : Fin grid1.N, _)

theorem at8 : ∀ t : Fin cfg1.N, win1_8.index t = ![0, 0] :=
  (by decide +kernel : ∀ t : Fin grid1.N, _)

theorem at9 : ∀ t : Fin cfg1.N, win1_9.index t = ![0, 0] :=
  (by decide +kernel : ∀ t : Fin grid1.N, _)

theorem at10 : ∀ t : Fin cfg1.N, win1_10.index t = ![0, 0] :=
  (by decide +kernel : ∀ t : Fin grid1.N, _)

theorem at11 : ∀ t : Fin cfg1.N, win1_11.index t = ![0, 0] :=
  (by decide +kernel : ∀ t : Fin grid1.N, _)

theorem at12 : ∀ t : Fin cfg1.N, win1_12.index t = ![0, 0] :=
  (by decide +kernel : ∀ t : Fin grid1.N, _)

theorem at13 : ∀ t : Fin cfg1.N, win1_13.index t = ![0, 0] :=
  (by decide +kernel : ∀ t : Fin grid1.N, _)

theorem at14 : ∀ t : Fin cfg1.N, win1_14.index t = ![0, 0] :=
  (by decide +kernel : ∀ t : Fin grid1.N, _)

theorem at15 : ∀ t : Fin cfg1.N, win1_15.index t = ![0, 0] :=
  (by decide +kernel : ∀ t : Fin grid1.N, _)

theorem at16 : ∀ t : Fin cfg1.N, win1_16.index t = ![0] :=
  (by decide +kernel : ∀ t : Fin grid1.N, _)

theorem blk0 (r : Fin 3200) (l : Fin 128) : (iblk m d 0 t : FVec Ideal S3200x128 .f32) (ix2 r l)
    = (V1 m d (Proc.devRef .tc main_v18) : FVec Ideal S204800x128 .f32) (ix2 ⟨t.val * 3200 + r.val, by have := t.isLt; have : cfg1.N = 64 := rfl; omega⟩ l) := by
  blk_simp [iblk]
  refine congrArg (V1 m d (Proc.devRef .tc main_v18)) ?_
  blk_ext [at0 t]

theorem blk1 (r : Fin 3200) (l : Fin 4) : (iblk m d 1 t : IVec S3200x4 32) (ix2 r l)
    = (V1 m d (Proc.devRef .tc main_v19) : IVec S204800x4 32) (ix2 ⟨t.val * 3200 + r.val, by have := t.isLt; have : cfg1.N = 64 := rfl; omega⟩ l) := by
  blk_simp [iblk]
  refine congrArg (V1 m d (Proc.devRef .tc main_v19)) ?_
  blk_ext [at1 t]

theorem blk2 (r : Fin 3200) (l : Fin 8) : (iblk m d 2 t : FVec Ideal S3200x8 .f32) (ix2 r l)
    = (V1 m d (Proc.devRef .tc main_v20) : FVec Ideal S204800x8 .f32) (ix2 ⟨t.val * 3200 + r.val, by have := t.isLt; have : cfg1.N = 64 := rfl; omega⟩ l) := by
  blk_simp [iblk]
  refine congrArg (V1 m d (Proc.devRef .tc main_v20)) ?_
  blk_ext [at2 t]

theorem blk3 (r : Fin 16) (l : Fin 16) : (iblk m d 3 t : FVec Ideal S16x16 .f32) (ix2 r l)
    = (V1 m d (Proc.devRef .tc main_arg2) : FVec Ideal S1024x16 .f32) (ix2 ⟨t.val * 16 + r.val, by have := t.isLt; have : cfg1.N = 64 := rfl; omega⟩ l) := by
  blk_simp [iblk]
  refine congrArg (V1 m d (Proc.devRef .tc main_arg2)) ?_
  blk_ext [at3 t]

theorem blk4 (r : Fin 16) (l : Fin 128) : (iblk m d 4 t : FVec Ideal S16x128 .f32) (ix2 r l)
    = (V1 m d (Proc.devRef .tc main_v0) : FVec Ideal S1024x128 .f32) (ix2 ⟨t.val * 16 + r.val, by have := t.isLt; have : cfg1.N = 64 := rfl; omega⟩ l) := by
  blk_simp [iblk]
  refine congrArg (V1 m d (Proc.devRef .tc main_v0)) ?_
  blk_ext [at4 t]

theorem blk5 : (iblk m d 5 t : FVec Ideal S88x16 .f32) = V1 m d (Proc.devRef .tc main_v17) := by
  funext y
  blk_simp [iblk]
  refine congrArg (V1 m d (Proc.devRef .tc main_v17)) ?_
  blk_ext [at5 t]

theorem blk6 : (iblk m d 6 t : FVec Ideal S16x128 .f32) = V1 m d (Proc.devRef .tc main_arg9) := by
  funext y
  blk_simp [iblk]
  refine congrArg (V1 m d (Proc.devRef .tc main_arg9)) ?_
  blk_ext [at6 t]

theorem blk7 : (iblk m d 7 t : FVec Ideal S1x128 .f32) = V1 m d (Proc.devRef .tc main_v26) := by
  funext y
  blk_simp [iblk]
  refine congrArg (V1 m d (Proc.devRef .tc main_v26)) ?_
  blk_ext [at7 t]

theorem blk8 : (iblk m d 8 t : FVec Ideal S16x128 .f32) = V1 m d (Proc.devRef .tc main_arg11) := by
  funext y
  blk_simp [iblk]
  refine congrArg (V1 m d (Proc.devRef .tc main_arg11)) ?_
  blk_ext [at8 t]

theorem blk9 : (iblk m d 9 t : FVec Ideal S1x128 .f32) = V1 m d (Proc.devRef .tc main_v27) := by
  funext y
  blk_simp [iblk]
  refine congrArg (V1 m d (Proc.devRef .tc main_v27)) ?_
  blk_ext [at9 t]

theorem blk10 : (iblk m d 10 t : FVec Ideal S8x128 .f32) = V1 m d (Proc.devRef .tc main_arg13) := by
  funext y
  blk_simp [iblk]
  refine congrArg (V1 m d (Proc.devRef .tc main_arg13)) ?_
  blk_ext [at10 t]

theorem blk11 : (iblk m d 11 t : FVec Ideal S1x128 .f32) = V1 m d (Proc.devRef .tc main_v28) := by
  funext y
  blk_simp [iblk]
  refine congrArg (V1 m d (Proc.devRef .tc main_v28)) ?_
  blk_ext [at11 t]

theorem blk12 : (iblk m d 12 t : FVec Ideal S128x128 .f32) = V1 m d (Proc.devRef .tc main_arg15) := by
  funext y
  blk_simp [iblk]
  refine congrArg (V1 m d (Proc.devRef .tc main_arg15)) ?_
  blk_ext [at12 t]

theorem blk13 : (iblk m d 13 t : FVec Ideal S1x128 .f32) = V1 m d (Proc.devRef .tc main_v29) := by
  funext y
  blk_simp [iblk]
  refine congrArg (V1 m d (Proc.devRef .tc main_v29)) ?_
  blk_ext [at13 t]

theorem blk14 : (iblk m d 14 t : FVec Ideal S1x128 .f32) = V1 m d (Proc.devRef .tc main_v30) := by
  funext y
  blk_simp [iblk]
  refine congrArg (V1 m d (Proc.devRef .tc main_v30)) ?_
  blk_ext [at14 t]

theorem blk15 : (iblk m d 15 t : FVec Ideal S1x128 .f32) = V1 m d (Proc.devRef .tc main_v31) := by
  funext y
  blk_simp [iblk]
  refine congrArg (V1 m d (Proc.devRef .tc main_v31)) ?_
  blk_ext [at15 t]

theorem blk16 : (iblk m d 16 t : FVec Ideal S4 .f32) = V1 m d (Proc.devRef .tc main_v25) := by
  funext y
  blk_simp [iblk]
  refine congrArg (V1 m d (Proc.devRef .tc main_v25)) ?_
  blk_ext [at16 t]

end Cert.Proof.V

end
-- ==== Proof.V.Entry.lean ====
/- The arrays the kernel's second part reads, at coordinates. -/
module

public import proofs.«01_k».proof.Proof.V.Arrays

@[expose] public section

noncomputable section

namespace Cert.Proof.V

open Cert.KernelIdeal Cert.KernelIdeal.Gen
open Idealize.ShloMosaic Idealize.SL.Sem
open Cert.Proof.PI (V0 V1 gath)

variable (m : (ℓ : Loc nD τ sig) → Buf (Elt Ideal) ℓ) (d : Dev nD)

/-- The base rows, flat. -/
theorem base_at (R : Fin 204800) (l : Fin 128) :
    (V1 m d (Proc.devRef .tc main_v18) : FVec Ideal S204800x128 .f32) (ix2 R l) = k0 m d (ix3 ⟨R.val / 200, by omega⟩ ⟨R.val % 200, Nat.mod_lt _ (by decide)⟩ l) := by
  rw [V1_v18]
  pointwise

/-- The calendar words, flat. -/
theorem raw_at (R : Fin 204800) (l : Fin 4) :
    (V1 m d (Proc.devRef .tc main_v19) : IVec S204800x4 32) (ix2 R l) = k1 m d (ix3 ⟨R.val / 200, by omega⟩ ⟨R.val % 200, Nat.mod_lt _ (by decide)⟩ l) := by
  rw [V1_v19]
  pointwise

/-- The gap features, flat. -/
theorem gap_at (R : Fin 204800) (l : Fin 8) :
    (V1 m d (Proc.devRef .tc main_v20) : FVec Ideal S204800x8 .f32) (ix2 R l) = k3 m d (ix3 ⟨R.val / 200, by omega⟩ ⟨R.val % 200, Nat.mod_lt _ (by decide)⟩ l) := by
  rw [V1_v20]
  pointwise

theorem bias_at (l : Fin 128) : (V1 m d (Proc.devRef .tc main_v26) : FVec Ideal S1x128 .f32) (ix2 0 l) = k10 m d (ix1 l) := by
  rw [V1_v26]
  pointwise
theorem sbias_at (l : Fin 128) : (V1 m d (Proc.devRef .tc main_v27) : FVec Ideal S1x128 .f32) (ix2 0 l) = k12 m d (ix1 l) := by
  rw [V1_v27]
  pointwise
theorem gbias_at (l : Fin 128) : (V1 m d (Proc.devRef .tc main_v28) : FVec Ideal S1x128 .f32) (ix2 0 l) = k14 m d (ix1 l) := by
  rw [V1_v28]
  pointwise
theorem hbias_at (l : Fin 128) : (V1 m d (Proc.devRef .tc main_v29) : FVec Ideal S1x128 .f32) (ix2 0 l) = k16 m d (ix1 l) := by
  rw [V1_v29]
  pointwise
theorem gain_at (l : Fin 128) : (V1 m d (Proc.devRef .tc main_v30) : FVec Ideal S1x128 .f32) (ix2 0 l) = k22 m d (ix1 l) := by
  rw [V1_v30]
  pointwise
theorem shift_at (l : Fin 128) : (V1 m d (Proc.devRef .tc main_v31) : FVec Ideal S1x128 .f32) (ix2 0 l) = k23 m d (ix1 l) := by
  rw [V1_v31]
  pointwise

theorem quad_0 (a b c e : FVec Ideal S_ .f32) : quad (broadcastInDim S1 ![] bcast_S_S1 a) (broadcastInDim S1 ![] bcast_S_S1 b) (broadcastInDim S1 ![] bcast_S_S1 c)
    (broadcastInDim S1 ![] bcast_S_S1 e) (ix1 0) = a ix0 := by
  pointwise [quad]
theorem quad_1 (a b c e : FVec Ideal S_ .f32) : quad (broadcastInDim S1 ![] bcast_S_S1 a) (broadcastInDim S1 ![] bcast_S_S1 b) (broadcastInDim S1 ![] bcast_S_S1 c)
    (broadcastInDim S1 ![] bcast_S_S1 e) (ix1 1) = b ix0 := by
  pointwise [quad]
theorem quad_2 (a b c e : FVec Ideal S_ .f32) : quad (broadcastInDim S1 ![] bcast_S_S1 a) (broadcastInDim S1 ![] bcast_S_S1 b) (broadcastInDim S1 ![] bcast_S_S1 c)
    (broadcastInDim S1 ![] bcast_S_S1 e) (ix1 2) = c ix0 := by
  pointwise [quad]
theorem quad_3 (a b c e : FVec Ideal S_ .f32) : quad (broadcastInDim S1 ![] bcast_S_S1 a) (broadcastInDim S1 ![] bcast_S_S1 b) (broadcastInDim S1 ![] bcast_S_S1 c)
    (broadcastInDim S1 ![] bcast_S_S1 e) (ix1 3) = e ix0 := by
  pointwise [quad]

theorem corner_0 (a b : BitVec 32) : corner a b (ix1 0) = a := by
  pointwise [corner, pair]
theorem corner_1 (a b : BitVec 32) : corner a b (ix1 1) = b := by
  pointwise [corner, pair]

/-- The spread table. -/
abbrev table : FVec Ideal S88x16 .f32 := V1 m d (Proc.devRef .tc main_v17)

/-- The spread table at a row and column: each time table at its own rows and columns, zero elsewhere. -/
theorem spread_at (r : Fin 88) (c : Fin 16) :
    table m d (ix2 r c)
      = if h : (63 ≤ r.val ∧ r.val < 63 + 24) ∧ (12 ≤ c.val ∧ c.val < 12 + 4) then k8 m d (ix2 ⟨r.val - 63, by omega⟩ ⟨c.val - 12, by omega⟩)
        else if h : (32 ≤ r.val ∧ r.val < 32 + 31) ∧ (8 ≤ c.val ∧ c.val < 8 + 4) then k7 m d (ix2 ⟨r.val - 32, by omega⟩ ⟨c.val - 8, by omega⟩)
        else if h : (20 ≤ r.val ∧ r.val < 20 + 12) ∧ (4 ≤ c.val ∧ c.val < 4 + 4) then k6 m d (ix2 ⟨r.val - 20, by omega⟩ ⟨c.val - 4, by omega⟩)
        else if h : (0 ≤ r.val ∧ r.val < 0 + 20) ∧ (0 ≤ c.val ∧ c.val < 0 + 4) then k5 m d (ix2 ⟨r.val - 0, by omega⟩ ⟨c.val - 0, by omega⟩)
        else (0 : EReal) := by
  rw [show table m d = _ from V1_v17 m d]
  refine (block_apply scatter_S88x16_S2_S24x4_01_n_01_0_wf _ 63 12 (by rw [corner_0]; rfl) (by rw [corner_1]; rfl) (by decide) (by decide) _ _ r c).trans ?_
  refine dite_congr rfl (fun _ => rfl) fun _ => ?_
  refine (block_apply scatter_S88x16_S2_S31x4_01_n_01_0_wf _ 32 8 (by rw [corner_0]; rfl) (by rw [corner_1]; rfl) (by decide) (by decide) _ _ r c).trans ?_
  refine dite_congr rfl (fun _ => rfl) fun _ => ?_
  refine (block_apply scatter_S88x16_S2_S12x4_01_n_01_0_wf _ 20 4 (by rw [corner_0]; rfl) (by rw [corner_1]; rfl) (by decide) (by decide) _ _ r c).trans ?_
  refine dite_congr rfl (fun _ => rfl) fun _ => ?_
  refine (block_apply scatter_S88x16_S2_S20x4_01_n_01_0_wf _ 0 0 (by rw [corner_0]; rfl) (by rw [corner_1]; rfl) (by decide) (by decide) _ _ r c).trans ?_
  refine dite_congr rfl (fun _ => rfl) fun _ => ?_
  exact Ideal.ofBits_zero .f32

/-- Sixteen products of which only the first four can differ from zero. -/
theorem first_four (T w : Fin 16 → EReal) (u : Fin 4 → EReal) (h0 : ∀ k : Fin 4, T ⟨k.val, by omega⟩ = u k) (h1 : ∀ k : Fin 4, T ⟨k.val + 4, by omega⟩ = 0) (h2 : ∀ k : Fin 4, T ⟨k.val + 8, by omega⟩ = 0) (h3 : ∀ k : Fin 4, T ⟨k.val + 12, by omega⟩ = 0) :
    (∑ k, T k * w k) = ∑ k : Fin 4, u k * w ⟨k.val, by omega⟩ := by
  rw [sum16]
  simp only [h0, h1, h2, h3, zero_mul, Finset.sum_const_zero, zero_add, add_zero]

/-- Sixteen products of which only the second four can differ from zero. -/
theorem second_four (T w : Fin 16 → EReal) (u : Fin 4 → EReal) (h0 : ∀ k : Fin 4, T ⟨k.val, by omega⟩ = 0) (h1 : ∀ k : Fin 4, T ⟨k.val + 4, by omega⟩ = u k) (h2 : ∀ k : Fin 4, T ⟨k.val + 8, by omega⟩ = 0) (h3 : ∀ k : Fin 4, T ⟨k.val + 12, by omega⟩ = 0) :
    (∑ k, T k * w k) = ∑ k : Fin 4, u k * w ⟨k.val + 4, by omega⟩ := by
  rw [sum16]
  simp only [h0, h1, h2, h3, zero_mul, Finset.sum_const_zero, zero_add, add_zero]

/-- Sixteen products of which only the third four can differ from zero. -/
theorem third_four (T w : Fin 16 → EReal) (u : Fin 4 → EReal) (h0 : ∀ k : Fin 4, T ⟨k.val, by omega⟩ = 0) (h1 : ∀ k : Fin 4, T ⟨k.val + 4, by omega⟩ = 0) (h2 : ∀ k : Fin 4, T ⟨k.val + 8, by omega⟩ = u k) (h3 : ∀ k : Fin 4, T ⟨k.val + 12, by omega⟩ = 0) :
    (∑ k, T k * w k) = ∑ k : Fin 4, u k * w ⟨k.val + 8, by omega⟩ := by
  rw [sum16]
  simp only [h0, h1, h2, h3, zero_mul, Finset.sum_const_zero, zero_add, add_zero]

/-- Sixteen products of which only the fourth four can differ from zero. -/
theorem fourth_four (T w : Fin 16 → EReal) (u : Fin 4 → EReal) (h0 : ∀ k : Fin 4, T ⟨k.val, by omega⟩ = 0) (h1 : ∀ k : Fin 4, T ⟨k.val + 4, by omega⟩ = 0) (h2 : ∀ k : Fin 4, T ⟨k.val + 8, by omega⟩ = 0) (h3 : ∀ k : Fin 4, T ⟨k.val + 12, by omega⟩ = u k) :
    (∑ k, T k * w k) = ∑ k : Fin 4, u k * w ⟨k.val + 12, by omega⟩ := by
  rw [sum16]
  simp only [h0, h1, h2, h3, zero_mul, Finset.sum_const_zero, zero_add, add_zero]

/-- A row of the spread table among the years against the weight is the year's row against the weight's first block. -/
theorem year_sum (W : FVec Ideal S16x128 .f32) (x : ℕ) (hx : x < 20) (l : Fin 128) :
    (∑ k, table m d (ix2 ⟨x, by omega⟩ k) * W (ix2 k l))
      = ∑ k : Fin 4, k5 m d (ix2 ⟨x, hx⟩ k) * W (ix2 ⟨k.val, by omega⟩ l) := by
  refine first_four (fun k => table m d (ix2 ⟨x, by omega⟩ k)) (fun k => W (ix2 k l)) _ (fun k => ?_) (fun k => ?_) (fun k => ?_) (fun k => ?_)
  all_goals
    refine (spread_at m d _ _).trans ?_
    have := k.isLt
    split_ifs <;> first | (exfalso; dsimp only at *; omega) | rfl | simp

theorem month_sum (W : FVec Ideal S16x128 .f32) (x : ℕ) (hx : x < 12) (l : Fin 128) :
    (∑ k, table m d (ix2 ⟨x + 20, by omega⟩ k) * W (ix2 k l))
      = ∑ k : Fin 4, k6 m d (ix2 ⟨x, hx⟩ k) * W (ix2 ⟨k.val + 4, by omega⟩ l) := by
  refine second_four (fun k => table m d (ix2 ⟨x + 20, by omega⟩ k)) (fun k => W (ix2 k l)) _ (fun k => ?_) (fun k => ?_) (fun k => ?_) (fun k => ?_)
  all_goals
    refine (spread_at m d _ _).trans ?_
    have := k.isLt
    split_ifs <;> first | (exfalso; dsimp only at *; omega) | rfl | simp

theorem day_sum (W : FVec Ideal S16x128 .f32) (x : ℕ) (hx : x < 31) (l : Fin 128) :
    (∑ k, table m d (ix2 ⟨x + 32, by omega⟩ k) * W (ix2 k l))
      = ∑ k : Fin 4, k7 m d (ix2 ⟨x, hx⟩ k) * W (ix2 ⟨k.val + 8, by omega⟩ l) := by
  refine third_four (fun k => table m d (ix2 ⟨x + 32, by omega⟩ k)) (fun k => W (ix2 k l)) _ (fun k => ?_) (fun k => ?_) (fun k => ?_) (fun k => ?_)
  all_goals
    refine (spread_at m d _ _).trans ?_
    have := k.isLt
    split_ifs <;> first | (exfalso; dsimp only at *; omega) | rfl | simp

theorem hour_sum (W : FVec Ideal S16x128 .f32) (x : ℕ) (hx : x < 24) (l : Fin 128) :
    (∑ k, table m d (ix2 ⟨x + 63, by omega⟩ k) * W (ix2 k l))
      = ∑ k : Fin 4, k8 m d (ix2 ⟨x, hx⟩ k) * W (ix2 ⟨k.val + 12, by omega⟩ l) := by
  refine fourth_four (fun k => table m d (ix2 ⟨x + 63, by omega⟩ k)) (fun k => W (ix2 k l)) _ (fun k => ?_) (fun k => ?_) (fun k => ?_) (fun k => ?_)
  all_goals
    refine (spread_at m d _ _).trans ?_
    have := k.isLt
    split_ifs <;> first | (exfalso; dsimp only at *; omega) | rfl | simp

end Cert.Proof.V

end
-- ==== Proof.V.Pay.lean ====
/- The kernel body's value, read at row `r` and lane `l` of a block. -/
module

public import proofs.«01_k».proof.Proof.Gen.KernelIdeal
public import proofs.«01_k».proof.Proof.Gen.KernelIdeal.Skeleton
public import proofs.«01_k».proof.Proof.V.Math
public import Idealize.ShloMosaic.Lib.Pointwise

@[expose] public section

noncomputable section

namespace Cert.Proof.V

open Cert.KernelIdeal Cert.KernelIdeal.Gen
open Idealize.ShloMosaic

/-- The last step: bias and gap added, the row normalised, scaled and shifted. -/
theorem pay1_apply (a0 a2 : Ideal .f32) (G A : FVec Ideal S3200x128 .f32) (tb ga be : FVec Ideal S1x128 .f32) (r : Fin 3200) (l : Fin 128)
    (z : Fin 128 → EReal) (hz : ∀ x, z x = A (ix2 r x) + a0 * tb (ix2 0 x) + a2 * G (ix2 r x)) :
    k1_pay1 (F := Ideal) a0 a2 G A tb ga be (ix2 r l)
      = (z l - mean z) * Ideal.rsqrt (msd z + Ideal.ofBits .f32 925353388#32) * ga (ix2 0 l) + be (ix2 0 l) := by
  obtain rfl : z = fun x => A (ix2 r x) + a0 * tb (ix2 0 x) + a2 * G (ix2 r x) := funext hz
  unfold msd mean
  pointwise [k1_pay1]

/-- The gap block. -/
theorem pay7_apply (x2 : FVec Ideal S3200x8 .f32) (x10 : FVec Ideal S8x128 .f32) (x11 : FVec Ideal S1x128 .f32) (x12 : FVec Ideal S128x128 .f32)
    (x13 : FVec Ideal S1x128 .f32) (r : Fin 3200) (l : Fin 128) :
    k1_pay7 (F := Ideal) x2 x10 x11 x12 x13 (ix2 r l)
      = (∑ x, max ((∑ y, x2 (ix2 r y) * x10 (ix2 y x)) + x11 (ix2 0 x)) 0 * x12 (ix2 x l)) + x13 (ix2 0 l) := by
  pointwise [k1_pay7]

/-- The time rows: the spread tables times the time weight. -/
theorem pay6_apply (x5 : FVec Ideal S88x16 .f32) (x6 : FVec Ideal S16x128 .f32) (i : Fin 88) (l : Fin 128) :
    k1_pay6 (F := Ideal) x5 x6 (ix2 i l) = ∑ k, x5 (ix2 i k) * x6 (ix2 k l) := by
  pointwise [k1_pay6]

/-- The 128 table rows the marks choose from. -/
def trow (v0 v1 v3 : EReal) (T : FVec Ideal S88x128 .f32) (v82 : FVec Ideal S16x16 .f32) (v83 : FVec Ideal S16x128 .f32) (v85 : FVec Ideal S1x128 .f32)
    (v91 : FVec Ideal S16x128 .f32) (l : Fin 128) (x : Fin 128) : EReal :=
  if h : x.val < 88 then v0 * T (ix2 ⟨x.val, h⟩ l)
  else if h : x.val - 88 < 16 then
    v1 * ((∑ k, v82 (ix2 ⟨x.val - 88, h⟩ k) * v83 (ix2 k l)) + v85 (ix2 0 l)) + v3 * v91 (ix2 ⟨x.val - 88, h⟩ l)
  else 0

theorem pay8_apply (v0 v1 v3 : Ideal .f32) (M : FVec Ideal S3200x128 .f32) (T : FVec Ideal S88x128 .f32) (v82 : FVec Ideal S16x16 .f32)
    (v83 : FVec Ideal S16x128 .f32) (v85 : FVec Ideal S1x128 .f32) (v91 : FVec Ideal S16x128 .f32) (B : FVec Ideal S3200x128 .f32) (r : Fin 3200)
    (l : Fin 128) :
    k1_pay8 (F := Ideal) v0 v1 v3 M T v82 v83 v85 v91 B (ix2 r l)
      = B (ix2 r l) + ∑ x, M (ix2 r x) * trow v0 v1 v3 T v82 v83 v85 v91 l x := by
  unfold trow
  pointwise [k1_pay8]

/-- Which batch of its block row `r` belongs to, as the kernel computes it. -/
theorem batch_word : ∀ r : Fin 3200,
    (Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 200#32 0#32)) (Scalar.extui (Scalar.cmpi CmpIPredicate.slt 200#32 0#32))))
        (IntOp.cmpi CmpIPredicate.ne (IntOp.remsi ArithUnit.vector (BitVec.ofNat 32 r.val) 200#32) 0#32))
      (IntOp.subi (IntOp.divsi ArithUnit.vector (BitVec.ofNat 32 r.val) 200#32) 1#32)
      (IntOp.divsi ArithUnit.vector (BitVec.ofNat 32 r.val) 200#32)) = BitVec.ofNat 32 (r.val / 200) := by
  decide +kernel

/-- The marks of row `r`: its four time lanes and its batch's lane. -/
theorem pay5_apply (x1 : IVec S3200x4 32) (r : Fin 3200) (x : Fin 128) :
    k1_pay5 (F := Ideal) (iota .tc S3200x128 32 [1] iota_S3200x128_d1_w32) (k1_pay3 (F := Ideal) x1) (k1_pay4 (F := Ideal) x1) 63#32 (ix2 r x)
      = if x.val = clip 19 (x1 (ix2 r 0)) ∨ x.val = clip 11 (x1 (ix2 r 1)) + 20 ∨ x.val = clip 30 (x1 (ix2 r 2)) + 32
          ∨ x.val = clip 23 (x1 (ix2 r 3)) + 63 ∨ x.val = r.val / 200 + 88 then (1 : EReal) else 0 := by
  pointwise [k1_pay5, k1_pay3, k1_pay4, k1_pay2]
  have h19 := clip_le 19 (x1 (ix2 r 0))
  have h11 := clip_le 11 (x1 (ix2 r 1))
  have h30 := clip_le 30 (x1 (ix2 r 2))
  have h23 := clip_le 23 (x1 (ix2 r 3))
  rw [batch_word r, clip_word 19 (by norm_num), clip_word 11 (by norm_num), clip_word 30 (by norm_num), clip_word 23 (by norm_num),
    cmp_lane _ _ _ x.isLt (by omega) (by omega), cmp_lane _ _ _ x.isLt (by omega) (by omega), cmp_lane _ _ _ x.isLt (by omega) (by omega),
    cmp_lane _ _ _ x.isLt (by omega) (by omega), cmp_lane _ _ _ x.isLt (by omega) (by omega), marks]
  simp only [Nat.add_zero]

end Cert.Proof.V

end
-- ==== Proof.V.Block.lean ====
/- The kernel's block of results, read at a row and lane: the five marked table rows summed, then the row normalised. -/
module

public import proofs.«01_k».proof.Proof.V.Pay
public import proofs.«01_k».proof.Proof.PI.Body

@[expose] public section

noncomputable section

namespace Cert.Proof.V

open Cert.KernelIdeal Cert.KernelIdeal.Gen
open Idealize.ShloMosaic

/-- A row normalised as the kernel does it: a product with the inverse root. -/
def normK (z : Fin 128 → EReal) (g e : EReal) (l : Fin 128) : EReal :=
  (z l - mean z) * Ideal.rsqrt (msd z + Ideal.ofBits .f32 925353388#32) * g + e

/-- The row before normalisation, in the kernel's order, of the blocks the body reads. -/
def zblk (x0 : FVec Ideal S3200x128 .f32) (x1 : IVec S3200x4 32) (x2 : FVec Ideal S3200x8 .f32) (x3 : FVec Ideal S16x16 .f32) (x4 : FVec Ideal S16x128 .f32)
    (x5 : FVec Ideal S88x16 .f32) (x6 : FVec Ideal S16x128 .f32) (x7 : FVec Ideal S1x128 .f32) (x8 : FVec Ideal S16x128 .f32) (x9 : FVec Ideal S1x128 .f32)
    (x10 : FVec Ideal S8x128 .f32) (x11 : FVec Ideal S1x128 .f32) (x12 : FVec Ideal S128x128 .f32) (x13 : FVec Ideal S1x128 .f32)
    (x16 : FVec Ideal S4 .f32) (r : Fin 3200) (l : Fin 128) : EReal :=
  x0 (ix2 r l)
    + (x16 (ix1 0) * (∑ k, x5 (ix2 ⟨clip 19 (x1 (ix2 r 0)), by have := clip_le 19 (x1 (ix2 r 0)); omega⟩ k) * x6 (ix2 k l))
      + x16 (ix1 0) * (∑ k, x5 (ix2 ⟨clip 11 (x1 (ix2 r 1)) + 20, by have := clip_le 11 (x1 (ix2 r 1)); omega⟩ k) * x6 (ix2 k l))
      + x16 (ix1 0) * (∑ k, x5 (ix2 ⟨clip 30 (x1 (ix2 r 2)) + 32, by have := clip_le 30 (x1 (ix2 r 2)); omega⟩ k) * x6 (ix2 k l))
      + x16 (ix1 0) * (∑ k, x5 (ix2 ⟨clip 23 (x1 (ix2 r 3)) + 63, by have := clip_le 23 (x1 (ix2 r 3)); omega⟩ k) * x6 (ix2 k l))
      + (x16 (ix1 1) * ((∑ k, x3 (ix2 ⟨r.val / 200, by omega⟩ k) * x8 (ix2 k l)) + x9 (ix2 0 l)) + x16 (ix1 3) * x4 (ix2 ⟨r.val / 200, by omega⟩ l)))
    + x16 (ix1 0) * x7 (ix2 0 l)
    + x16 (ix1 2) * ((∑ x, max ((∑ y, x2 (ix2 r y) * x10 (ix2 y x)) + x11 (ix2 0 x)) 0 * x12 (ix2 x l)) + x13 (ix2 0 l))

/-- A table row of the time part. -/
theorem trow_time (v0 v1 v3 : EReal) (T : FVec Ideal S88x128 .f32) (v82 : FVec Ideal S16x16 .f32) (v83 : FVec Ideal S16x128 .f32) (v85 : FVec Ideal S1x128 .f32)
    (v91 : FVec Ideal S16x128 .f32) (l : Fin 128) (x : ℕ) (hx : x < 88) :
    trow v0 v1 v3 T v82 v83 v85 v91 l ⟨x, by omega⟩ = v0 * T (ix2 ⟨x, hx⟩ l) := by
  rw [trow, dif_pos hx]

/-- A table row of the batch part. -/
theorem trow_batch (v0 v1 v3 : EReal) (T : FVec Ideal S88x128 .f32) (v82 : FVec Ideal S16x16 .f32) (v83 : FVec Ideal S16x128 .f32) (v85 : FVec Ideal S1x128 .f32)
    (v91 : FVec Ideal S16x128 .f32) (l : Fin 128) (q : ℕ) (hq : q < 16) :
    trow v0 v1 v3 T v82 v83 v85 v91 l ⟨q + 88, by omega⟩
      = v1 * ((∑ k, v82 (ix2 ⟨q, hq⟩ k) * v83 (ix2 k l)) + v85 (ix2 0 l)) + v3 * v91 (ix2 ⟨q, hq⟩ l) := by
  rw [trow, dif_neg (by show ¬ q + 88 < 88; omega), dif_pos (by show q + 88 - 88 < 16; omega)]
  simp only [Nat.add_sub_cancel]

theorem outv_apply (x0 : FVec Ideal S3200x128 .f32) (x1 : IVec S3200x4 32) (x2 : FVec Ideal S3200x8 .f32) (x3 : FVec Ideal S16x16 .f32) (x4 : FVec Ideal S16x128 .f32)
    (x5 : FVec Ideal S88x16 .f32) (x6 : FVec Ideal S16x128 .f32) (x7 : FVec Ideal S1x128 .f32) (x8 : FVec Ideal S16x128 .f32) (x9 : FVec Ideal S1x128 .f32)
    (x10 : FVec Ideal S8x128 .f32) (x11 : FVec Ideal S1x128 .f32) (x12 : FVec Ideal S128x128 .f32) (x13 x14 x15 : FVec Ideal S1x128 .f32)
    (x16 : FVec Ideal S4 .f32) (r : Fin 3200) (l : Fin 128) :
    PI.outv (F := Ideal) x0 x1 x2 x3 x4 x5 x6 x7 x8 x9 x10 x11 x12 x13 x14 x15 x16 (ix2 r l)
      = normK (zblk x0 x1 x2 x3 x4 x5 x6 x7 x8 x9 x10 x11 x12 x13 x16 r) (x14 (ix2 0 l)) (x15 (ix2 0 l)) l := by
  have h19 := clip_le 19 (x1 (ix2 r 0))
  have h11 := clip_le 11 (x1 (ix2 r 1))
  have h30 := clip_le 30 (x1 (ix2 r 2))
  have h23 := clip_le 23 (x1 (ix2 r 3))
  have hr := r.isLt
  refine pay1_apply _ _ _ _ _ _ _ r l _ (fun x => ?_)
  rw [pay8_apply, pay7_apply]
  refine Eq.trans ?_ (congrArg (fun q : EReal => x0 (ix2 r x) + q + _ + _)
    (Finset.sum_congr rfl fun y _ => (congrArg (fun q : EReal => q * _) (pay5_apply x1 r y))).symm)
  rw [sum_marks _ _ _ _ _ _ (by omega) (by omega) (by omega) (by omega) (by omega),
    trow_time _ _ _ _ _ _ _ _ _ _ (by omega), trow_time _ _ _ _ _ _ _ _ _ _ (by omega), trow_time _ _ _ _ _ _ _ _ _ _ (by omega),
    trow_time _ _ _ _ _ _ _ _ _ _ (by omega), trow_batch _ _ _ _ _ _ _ _ _ _ (by omega),
    pay6_apply, pay6_apply, pay6_apply, pay6_apply]
  rfl

end Cert.Proof.V

end
-- ==== Proof.V.RefVal.lean ====
/- The reference's value, read at batch `b`, step `s`, lane `l`. -/
module

public import proofs.«01_k».proof.Proof.Gen.ReferenceIdeal
public import proofs.«01_k».proof.Proof.Gen.ReferenceIdeal.Run
public import proofs.«01_k».proof.Proof.V.Math
public import proofs.«01_k».proof.Proof.V.Index
public import Idealize.ShloMosaic.Lib.Pointwise
public import Idealize.ShloMosaic.Lib.ReduceAll

@[expose] public section

noncomputable section

namespace Cert.Proof.V

open Cert.ReferenceIdeal Cert.ReferenceIdeal.Gen Cert.ReferenceIdeal.Value
open Idealize.ShloMosaic

/-- A word that is not negative is left alone by the wrap of negative indices. -/
theorem wrap (p : ℕ) (hp : p < 2 ^ 31) (y : BitVec 32) : Scalar.select (IntOp.cmpi .slt (BitVec.ofNat 32 p) 0#32) y (BitVec.ofNat 32 p) = BitVec.ofNat 32 p := by
  have h : (BitVec.ofNat 32 p).slt 0#32 = false := by
    rw [BitVec.slt_eq_decide, decide_eq_false_iff_not]
    simp only [BitVec.toInt_eq_toNat_cond, BitVec.toNat_ofNat]
    omega
  rw [IntOp.cmpi, h]
  rfl

/-- A word in `[0, n]` passes the range test. -/
theorem in_range (p n : ℕ) (hp : p ≤ n) (hn : n < 2 ^ 31) :
    IntOp.andi (IntOp.cmpi .sge (BitVec.ofNat 32 p) 0#32) (IntOp.cmpi .sle (BitVec.ofNat 32 p) (BitVec.ofNat 32 n)) = 1#1 := by
  have h1 : (0#32).sle (BitVec.ofNat 32 p) = true := by
    rw [BitVec.sle_eq_decide, decide_eq_true_iff]
    simp only [BitVec.toInt_eq_toNat_cond, BitVec.toNat_ofNat]
    omega
  have h2 : (BitVec.ofNat 32 p).sle (BitVec.ofNat 32 n) = true := by
    rw [BitVec.sle_eq_decide, decide_eq_true_iff]
    simp only [BitVec.toInt_eq_toNat_cond, BitVec.toNat_ofNat]
    omega
  rw [IntOp.cmpi, IntOp.cmpi, h1, h2]
  rfl

theorem toInt_small (p : ℕ) (hp : p < 2 ^ 31) : (BitVec.ofNat 32 p).toInt.toNat = p := by
  simp only [BitVec.toInt_eq_toNat_cond, BitVec.toNat_ofNat]
  omega

/-- A lookup with the range mask, its words in range: the table's row. -/
theorem take3 (n : ℕ) (hn : n < 2 ^ 31) (wf : GatherDims.WF ⟨2, ![n + 1, 4]⟩ S1024x200x1 S1024x200x4 [2] [0] [] [0] [] 2 ![1, 4])
    (T : FVec Ideal ⟨2, ![n + 1, 4]⟩ .f32) (idx : IVec S1024x200x1 32) (p : Fin 1024 → Fin 200 → ℕ) (hp : ∀ b s, p b s ≤ n)
    (h : ∀ b s, idx (ix3 b s 0) = BitVec.ofNat 32 (p b s)) (N : FVec Ideal S1024x200x4 .f32) (b : Fin 1024) (s : Fin 200) (k : Fin 4) :
    select (broadcastInDim S1024x200x4 ![0, 1] bcast_S1024x200_S1024x200x4_0_1 (Host.reduce IntOp.andi (andi (cmpi .sge idx (broadcastInDim S1024x200x1 ![] bcast_S_S1024x200x1 (constantI S_ 32 0#32))) (cmpi .sle idx (broadcastInDim S1024x200x1 ![0, 1, 2] bcast_S1x1x1_S1024x200x1_0_1_2 (broadcastInDim S1x1x1 ![2] bcast_S1_S1x1x1_2 (constantI S1 32 (BitVec.ofNat 32 n)))))) (constantI S_ 1 1#1) reducesTo_S1024x200x1_S1024x200_d2 h_S_))
      (Host.gather (rowsDims3 (n + 1) 4 1024 200 wf) T idx) N (ix3 b s k) = T (ix2 ⟨p b s, Nat.lt_succ_of_le (hp b s)⟩ k) := by
  rw [select, broadcastInDim, Host.reduce_andi_one _ _ _ _ _ rfl (fun i => by
    obtain ⟨b', s', rfl⟩ : ∃ b' s', i = ix3 b' s' 0 := ⟨i 0, i 1, by rw [eq_ix3 i]; congr 1; exact Subsingleton.elim _ _⟩
    pointwise
    rw [h b' s']
    exact in_range _ _ (hp b' s') hn)]
  show Host.gather (rowsDims3 (n + 1) 4 1024 200 wf) T idx (ix3 b s k) = _
  rw [rows3_apply (Nat.succ_pos n)]
  congr 1
  congr 1
  refine Fin.ext ?_
  show min (idx (ix3 b s 0)).toInt.toNat (n + 1 - 1) = p b s
  have := hp b s
  rw [h b s, toInt_small _ (by omega)]
  omega

variable (V0 : Valuation τ sig (Elt Ideal))

/-- Argument 0. -/
abbrev a0 : FVec Ideal S1024x200x128 .f32 := V0 (Proc.devRef .tc main_arg0)

/-- Argument 1. -/
abbrev a1 : IVec S1024x200x4 32 := V0 (Proc.devRef .tc main_arg1)

/-- Argument 2. -/
abbrev a2 : FVec Ideal S1024x16 .f32 := V0 (Proc.devRef .tc main_arg2)

/-- Argument 3. -/
abbrev a3 : FVec Ideal S1024x200x8 .f32 := V0 (Proc.devRef .tc main_arg3)

/-- Argument 4. -/
abbrev a4 : IVec S1024 32 := V0 (Proc.devRef .tc main_arg4)

/-- Argument 5. -/
abbrev a5 : FVec Ideal S20x4 .f32 := V0 (Proc.devRef .tc main_arg5)

/-- Argument 6. -/
abbrev a6 : FVec Ideal S12x4 .f32 := V0 (Proc.devRef .tc main_arg6)

/-- Argument 7. -/
abbrev a7 : FVec Ideal S31x4 .f32 := V0 (Proc.devRef .tc main_arg7)

/-- Argument 8. -/
abbrev a8 : FVec Ideal S24x4 .f32 := V0 (Proc.devRef .tc main_arg8)

/-- Argument 9. -/
abbrev a9 : FVec Ideal S16x128 .f32 := V0 (Proc.devRef .tc main_arg9)

/-- Argument 10. -/
abbrev a10 : FVec Ideal S128 .f32 := V0 (Proc.devRef .tc main_arg10)

/-- Argument 11. -/
abbrev a11 : FVec Ideal S16x128 .f32 := V0 (Proc.devRef .tc main_arg11)

/-- Argument 12. -/
abbrev a12 : FVec Ideal S128 .f32 := V0 (Proc.devRef .tc main_arg12)

/-- Argument 13. -/
abbrev a13 : FVec Ideal S8x128 .f32 := V0 (Proc.devRef .tc main_arg13)

/-- Argument 14. -/
abbrev a14 : FVec Ideal S128 .f32 := V0 (Proc.devRef .tc main_arg14)

/-- Argument 15. -/
abbrev a15 : FVec Ideal S128x128 .f32 := V0 (Proc.devRef .tc main_arg15)

/-- Argument 16. -/
abbrev a16 : FVec Ideal S128 .f32 := V0 (Proc.devRef .tc main_arg16)

/-- Argument 17. -/
abbrev a17 : FVec Ideal S100000x128 .f32 := V0 (Proc.devRef .tc main_arg17)

/-- Argument 18. -/
abbrev a18 : FVec Ideal S_ .f32 := V0 (Proc.devRef .tc main_arg18)

/-- Argument 19. -/
abbrev a19 : FVec Ideal S_ .f32 := V0 (Proc.devRef .tc main_arg19)

/-- Argument 20. -/
abbrev a20 : FVec Ideal S_ .f32 := V0 (Proc.devRef .tc main_arg20)

/-- Argument 21. -/
abbrev a21 : FVec Ideal S_ .f32 := V0 (Proc.devRef .tc main_arg21)

/-- Argument 22. -/
abbrev a22 : FVec Ideal S128 .f32 := V0 (Proc.devRef .tc main_arg22)

/-- Argument 23. -/
abbrev a23 : FVec Ideal S128 .f32 := V0 (Proc.devRef .tc main_arg23)

theorem v2_apply (b : Fin 1024) (s : Fin 200) : res_main_v2 V0 (ix2 b s) = BitVec.ofNat 32 (clip 19 (a1 V0 (ix3 b s 0))) := by
  pointwise [res_main_v2]
  exact clip_word 19 (by norm_num) _

theorem v5_apply (b : Fin 1024) (s : Fin 200) : res_main_v5 V0 (ix2 b s) = BitVec.ofNat 32 (clip 11 (a1 V0 (ix3 b s 1))) := by
  pointwise [res_main_v5]
  exact clip_word 11 (by norm_num) _

theorem v8_apply (b : Fin 1024) (s : Fin 200) : res_main_v8 V0 (ix2 b s) = BitVec.ofNat 32 (clip 30 (a1 V0 (ix3 b s 2))) := by
  pointwise [res_main_v8]
  exact clip_word 30 (by norm_num) _

theorem v11_apply (b : Fin 1024) (s : Fin 200) : res_main_v11 V0 (ix2 b s) = BitVec.ofNat 32 (clip 23 (a1 V0 (ix3 b s 3))) := by
  pointwise [res_main_v11]
  exact clip_word 23 (by norm_num) _

theorem clip_small (n : ℕ) (hn : n < 2 ^ 31) (v : BitVec 32) : clip n v < 2 ^ 31 := lt_of_le_of_lt (clip_le n v) hn

theorem call4_apply (b : Fin 1024) (s : Fin 200) : res_main_call4_v5 V0 (ix3 b s 0) = BitVec.ofNat 32 (clip 19 (a1 V0 (ix3 b s 0))) := by
  pointwise [res_main_call4_v5]
  rw [v2_apply]; exact wrap _ (clip_small _ (by norm_num) _) _

theorem call5_apply (b : Fin 1024) (s : Fin 200) : res_main_call5_v5 V0 (ix3 b s 0) = BitVec.ofNat 32 (clip 11 (a1 V0 (ix3 b s 1))) := by
  pointwise [res_main_call5_v5]
  rw [v5_apply]; exact wrap _ (clip_small _ (by norm_num) _) _

theorem call6_apply (b : Fin 1024) (s : Fin 200) : res_main_call6_v5 V0 (ix3 b s 0) = BitVec.ofNat 32 (clip 30 (a1 V0 (ix3 b s 2))) := by
  pointwise [res_main_call6_v5]
  rw [v8_apply]; exact wrap _ (clip_small _ (by norm_num) _) _

theorem call7_apply (b : Fin 1024) (s : Fin 200) : res_main_call7_v5 V0 (ix3 b s 0) = BitVec.ofNat 32 (clip 23 (a1 V0 (ix3 b s 3))) := by
  pointwise [res_main_call7_v5]
  rw [v11_apply]; exact wrap _ (clip_small _ (by norm_num) _) _

/-- One of the four time lookups. -/
def tk4 : FVec Ideal S1024x200x4 .f32 :=
  select (broadcastInDim S1024x200x4 ![0, 1] bcast_S1024x200_S1024x200x4_0_1 (Host.reduce IntOp.andi (andi (cmpi .sge (res_main_call4_v5 V0) (broadcastInDim S1024x200x1 ![] bcast_S_S1024x200x1 (constantI S_ 32 0#32))) (cmpi .sle (res_main_call4_v5 V0) (broadcastInDim S1024x200x1 ![0, 1, 2] bcast_S1x1x1_S1024x200x1_0_1_2 (broadcastInDim S1x1x1 ![2] bcast_S1_S1x1x1_2 (constantI S1 32 19#32))))) (constantI S_ 1 1#1) reducesTo_S1024x200x1_S1024x200_d2 h_S_)) (Host.gather gather_S20x4_S1024x200x1_S1024x200x4_2_0_n_n_0_2_14 (a5 V0) (res_main_call4_v5 V0)) (broadcastInDim S1024x200x4 ![] bcast_S_S1024x200x4 (constant S_ .f32 0x7FC00000#32))

/-- One of the four time lookups. -/
def tk5 : FVec Ideal S1024x200x4 .f32 :=
  select (broadcastInDim S1024x200x4 ![0, 1] bcast_S1024x200_S1024x200x4_0_1 (Host.reduce IntOp.andi (andi (cmpi .sge (res_main_call5_v5 V0) (broadcastInDim S1024x200x1 ![] bcast_S_S1024x200x1 (constantI S_ 32 0#32))) (cmpi .sle (res_main_call5_v5 V0) (broadcastInDim S1024x200x1 ![0, 1, 2] bcast_S1x1x1_S1024x200x1_0_1_2 (broadcastInDim S1x1x1 ![2] bcast_S1_S1x1x1_2 (constantI S1 32 11#32))))) (constantI S_ 1 1#1) reducesTo_S1024x200x1_S1024x200_d2 h_S_)) (Host.gather gather_S12x4_S1024x200x1_S1024x200x4_2_0_n_n_0_2_14 (a6 V0) (res_main_call5_v5 V0)) (broadcastInDim S1024x200x4 ![] bcast_S_S1024x200x4 (constant S_ .f32 0x7FC00000#32))

/-- One of the four time lookups. -/
def tk6 : FVec Ideal S1024x200x4 .f32 :=
  select (broadcastInDim S1024x200x4 ![0, 1] bcast_S1024x200_S1024x200x4_0_1 (Host.reduce IntOp.andi (andi (cmpi .sge (res_main_call6_v5 V0) (broadcastInDim S1024x200x1 ![] bcast_S_S1024x200x1 (constantI S_ 32 0#32))) (cmpi .sle (res_main_call6_v5 V0) (broadcastInDim S1024x200x1 ![0, 1, 2] bcast_S1x1x1_S1024x200x1_0_1_2 (broadcastInDim S1x1x1 ![2] bcast_S1_S1x1x1_2 (constantI S1 32 30#32))))) (constantI S_ 1 1#1) reducesTo_S1024x200x1_S1024x200_d2 h_S_)) (Host.gather gather_S31x4_S1024x200x1_S1024x200x4_2_0_n_n_0_2_14 (a7 V0) (res_main_call6_v5 V0)) (broadcastInDim S1024x200x4 ![] bcast_S_S1024x200x4 (constant S_ .f32 0x7FC00000#32))

/-- One of the four time lookups. -/
def tk7 : FVec Ideal S1024x200x4 .f32 :=
  select (broadcastInDim S1024x200x4 ![0, 1] bcast_S1024x200_S1024x200x4_0_1 (Host.reduce IntOp.andi (andi (cmpi .sge (res_main_call7_v5 V0) (broadcastInDim S1024x200x1 ![] bcast_S_S1024x200x1 (constantI S_ 32 0#32))) (cmpi .sle (res_main_call7_v5 V0) (broadcastInDim S1024x200x1 ![0, 1, 2] bcast_S1x1x1_S1024x200x1_0_1_2 (broadcastInDim S1x1x1 ![2] bcast_S1_S1x1x1_2 (constantI S1 32 23#32))))) (constantI S_ 1 1#1) reducesTo_S1024x200x1_S1024x200_d2 h_S_)) (Host.gather gather_S24x4_S1024x200x1_S1024x200x4_2_0_n_n_0_2_14 (a8 V0) (res_main_call7_v5 V0)) (broadcastInDim S1024x200x4 ![] bcast_S_S1024x200x4 (constant S_ .f32 0x7FC00000#32))

/-- The four time lookups side by side. -/
def cat : FVec Ideal S1024x200x16 .f32 :=
  concatenate S1024x200x16 2 [⟨S1024x200x4, ((tk4 V0) : (⟨S1024x200x4, .f32⟩ : BufTy).Contents (Elt Ideal))⟩, ⟨S1024x200x4, ((tk5 V0) : (⟨S1024x200x4, .f32⟩ : BufTy).Contents (Elt Ideal))⟩, ⟨S1024x200x4, ((tk6 V0) : (⟨S1024x200x4, .f32⟩ : BufTy).Contents (Elt Ideal))⟩, ⟨S1024x200x4, ((tk7 V0) : (⟨S1024x200x4, .f32⟩ : BufTy).Contents (Elt Ideal))⟩] concatenates_S1024x200x4_S1024x200x4_S1024x200x4_S1024x200x4_S1024x200x16_d2

/-- The station lookup. -/
def stn : FVec Ideal S1024x128 .f32 :=
  select (broadcastInDim S1024x128 ![0] bcast_S1024_S1024x128_0 (Host.reduce IntOp.andi (andi (cmpi .sge (res_main_call9_v5 V0) (broadcastInDim S1024x1 ![] bcast_S_S1024x1 (constantI S_ 32 0#32))) (cmpi .sle (res_main_call9_v5 V0) (broadcastInDim S1024x1 ![0, 1] bcast_S1x1_S1024x1_0_1 (broadcastInDim S1x1 ![1] bcast_S1_S1x1_1 (constantI S1 32 99999#32))))) (constantI S_ 1 1#1) reducesTo_S1024x1_S1024_d1 h_S_)) (Host.gather gather_S100000x128_S1024x1_S1024x128_1_0_n_n_0_1_1128 (a17 V0) (res_main_call9_v5 V0)) (broadcastInDim S1024x128 ![] bcast_S_S1024x128 (constant S_ .f32 0x7FC00000#32))

set_option maxRecDepth 8192 in
theorem v32_eq : res_main_v32 V0 = (addf (addf (a0 V0) (mulf (broadcastInDim S1024x200x128 ![] bcast_S_S1024x200x128 (a18 V0)) (addf (Host.dotGeneral dot_S1024x200x16_S16x128_S1024x200x128_2_0_01_1_n_n none (cat V0) (a9 V0)) (broadcastInDim S1024x200x128 ![0, 1, 2] bcast_S1x1x128_S1024x200x128_0_1_2 (broadcastInDim S1x1x128 ![2] bcast_S128_S1x1x128_2 (a10 V0)))))) (broadcastInDim S1024x200x128 ![0, 1, 2] bcast_S1024x1x128_S1024x200x128_0_1_2 (mulf (broadcastInDim S1024x1x128 ![] bcast_S_S1024x1x128 (a19 V0)) (broadcastInDim S1024x1x128 ![0, 2] bcast_S1024x128_S1024x1x128_0_2 (addf (Host.dotGeneral dot_S1024x16_S16x128_S1024x128_1_0_0_1_n_n none (a2 V0) (a11 V0)) (broadcastInDim S1024x128 ![0, 1] bcast_S1x128_S1024x128_0_1 (broadcastInDim S1x128 ![1] bcast_S128_S1x128_1 (a12 V0))))))) : FVec Ideal S1024x200x128 .f32) := rfl

set_option maxRecDepth 8192 in
theorem v50_eq : res_main_v50 V0 = (addf (addf (res_main_v32 V0) (mulf (broadcastInDim S1024x200x128 ![] bcast_S_S1024x200x128 (a20 V0)) (addf (Host.dotGeneral dot_S1024x200x128_S128x128_S1024x200x128_2_0_01_1_n_n none (maximumf (addf (Host.dotGeneral dot_S1024x200x8_S8x128_S1024x200x128_2_0_01_1_n_n none (a3 V0) (a13 V0)) (broadcastInDim S1024x200x128 ![0, 1, 2] bcast_S1x1x128_S1024x200x128_0_1_2 (broadcastInDim S1x1x128 ![2] bcast_S128_S1x1x128_2 (a14 V0)))) (broadcastInDim S1024x200x128 ![] bcast_S_S1024x200x128 (constant S_ .f32 0x00000000#32))) (a15 V0)) (broadcastInDim S1024x200x128 ![0, 1, 2] bcast_S1x1x128_S1024x200x128_0_1_2 (broadcastInDim S1x1x128 ![2] bcast_S128_S1x1x128_2 (a16 V0)))))) (broadcastInDim S1024x200x128 ![0, 1, 2] bcast_S1024x1x128_S1024x200x128_0_1_2 (mulf (broadcastInDim S1024x1x128 ![] bcast_S_S1024x1x128 (a21 V0)) (broadcastInDim S1024x1x128 ![0, 2] bcast_S1024x128_S1024x1x128_0_2 (stn V0)))) : FVec Ideal S1024x200x128 .f32) := rfl

theorem tk4_apply (b : Fin 1024) (s : Fin 200) (k : Fin 4) :
    tk4 V0 (ix3 b s k) = a5 V0 (ix2 ⟨clip 19 (a1 V0 (ix3 b s 0)), Nat.lt_succ_of_le (clip_le _ _)⟩ k) :=
  take3 19 (by norm_num) gather_S20x4_S1024x200x1_S1024x200x4_2_0_n_n_0_2_14_wf (a5 V0) (res_main_call4_v5 V0) (fun b s => clip 19 (a1 V0 (ix3 b s 0)))
    (fun _ _ => clip_le _ _) (call4_apply V0) _ b s k

theorem tk5_apply (b : Fin 1024) (s : Fin 200) (k : Fin 4) :
    tk5 V0 (ix3 b s k) = a6 V0 (ix2 ⟨clip 11 (a1 V0 (ix3 b s 1)), Nat.lt_succ_of_le (clip_le _ _)⟩ k) :=
  take3 11 (by norm_num) gather_S12x4_S1024x200x1_S1024x200x4_2_0_n_n_0_2_14_wf (a6 V0) (res_main_call5_v5 V0) (fun b s => clip 11 (a1 V0 (ix3 b s 1)))
    (fun _ _ => clip_le _ _) (call5_apply V0) _ b s k

theorem tk6_apply (b : Fin 1024) (s : Fin 200) (k : Fin 4) :
    tk6 V0 (ix3 b s k) = a7 V0 (ix2 ⟨clip 30 (a1 V0 (ix3 b s 2)), Nat.lt_succ_of_le (clip_le _ _)⟩ k) :=
  take3 30 (by norm_num) gather_S31x4_S1024x200x1_S1024x200x4_2_0_n_n_0_2_14_wf (a7 V0) (res_main_call6_v5 V0) (fun b s => clip 30 (a1 V0 (ix3 b s 2)))
    (fun _ _ => clip_le _ _) (call6_apply V0) _ b s k

theorem tk7_apply (b : Fin 1024) (s : Fin 200) (k : Fin 4) :
    tk7 V0 (ix3 b s k) = a8 V0 (ix2 ⟨clip 23 (a1 V0 (ix3 b s 3)), Nat.lt_succ_of_le (clip_le _ _)⟩ k) :=
  take3 23 (by norm_num) gather_S24x4_S1024x200x1_S1024x200x4_2_0_n_n_0_2_14_wf (a8 V0) (res_main_call7_v5 V0) (fun b s => clip 23 (a1 V0 (ix3 b s 3)))
    (fun _ _ => clip_le _ _) (call7_apply V0) _ b s k

theorem cat_0 (b : Fin 1024) (s : Fin 200) (k : Fin 4) : cat V0 (ix3 b s ⟨k.val, by omega⟩) = tk4 V0 (ix3 b s k) := by
  pointwise [cat] <;> simp <;> (repeat rw [dif_neg (by omega)])

theorem cat_1 (b : Fin 1024) (s : Fin 200) (k : Fin 4) : cat V0 (ix3 b s ⟨k.val + 4, by omega⟩) = tk5 V0 (ix3 b s k) := by
  pointwise [cat] <;> simp <;> (repeat rw [dif_neg (by omega)])

theorem cat_2 (b : Fin 1024) (s : Fin 200) (k : Fin 4) : cat V0 (ix3 b s ⟨k.val + 8, by omega⟩) = tk6 V0 (ix3 b s k) := by
  pointwise [cat] <;> simp <;> (repeat rw [dif_neg (by omega)])

theorem cat_3 (b : Fin 1024) (s : Fin 200) (k : Fin 4) : cat V0 (ix3 b s ⟨k.val + 12, by omega⟩) = tk7 V0 (ix3 b s k) := by
  pointwise [cat] <;> simp <;> (repeat rw [dif_neg (by omega)])

/-- The time part of the reference before its bias: the four looked-up rows against the weight's four blocks. -/
def emb (b : Fin 1024) (s : Fin 200) (l : Fin 128) : EReal :=
  (∑ k : Fin 4, a5 V0 (ix2 ⟨clip 19 (a1 V0 (ix3 b s 0)), Nat.lt_succ_of_le (clip_le _ _)⟩ k) * a9 V0 (ix2 ⟨k.val, by omega⟩ l))
  + (∑ k : Fin 4, a6 V0 (ix2 ⟨clip 11 (a1 V0 (ix3 b s 1)), Nat.lt_succ_of_le (clip_le _ _)⟩ k) * a9 V0 (ix2 ⟨k.val + 4, by omega⟩ l))
  + (∑ k : Fin 4, a7 V0 (ix2 ⟨clip 30 (a1 V0 (ix3 b s 2)), Nat.lt_succ_of_le (clip_le _ _)⟩ k) * a9 V0 (ix2 ⟨k.val + 8, by omega⟩ l))
  + (∑ k : Fin 4, a8 V0 (ix2 ⟨clip 23 (a1 V0 (ix3 b s 3)), Nat.lt_succ_of_le (clip_le _ _)⟩ k) * a9 V0 (ix2 ⟨k.val + 12, by omega⟩ l))

theorem emb_eq (b : Fin 1024) (s : Fin 200) (l : Fin 128) : (∑ k : Fin 16, cat V0 (ix3 b s k) * a9 V0 (ix2 k l)) = emb V0 b s l := by
  rw [sum16, emb]
  simp only [cat_0, cat_1, cat_2, cat_3, tk4_apply, tk5_apply, tk6_apply, tk7_apply]

/-- The row before normalisation, in the reference's order. -/
def zref (p : Fin 1024 → Fin 100000) (b : Fin 1024) (s : Fin 200) (l : Fin 128) : EReal :=
  a0 V0 (ix3 b s l) + a18 V0 ix0 * (emb V0 b s l + a10 V0 (ix1 l)) + a19 V0 ix0 * ((∑ k, a2 V0 (ix2 b k) * a11 V0 (ix2 k l)) + a12 V0 (ix1 l))
    + a20 V0 ix0 * ((∑ x, max ((∑ y, a3 V0 (ix3 b s y) * a13 V0 (ix2 y x)) + a14 V0 (ix1 x)) 0 * a15 V0 (ix2 x l)) + a16 V0 (ix1 l))
    + a21 V0 ix0 * a17 V0 (ix2 (p b) l)

/-- The time part, bias and static part added to the base. -/
theorem v32_apply (b : Fin 1024) (s : Fin 200) (l : Fin 128) :
    (show EReal from res_main_v32 V0 (ix3 b s l)) = a0 V0 (ix3 b s l) + a18 V0 ix0 * (emb V0 b s l + a10 V0 (ix1 l)) + a19 V0 ix0 * ((∑ k, a2 V0 (ix2 b k) * a11 V0 (ix2 k l)) + a12 V0 (ix1 l)) := by
  rw [v32_eq, ← emb_eq]
  pointwise

theorem call9_apply (p : Fin 1024 → Fin 100000) (hp : ∀ b, a4 V0 (ix1 b) = BitVec.ofNat 32 (p b).val) (b : Fin 1024) :
    res_main_call9_v5 V0 (ix2 b 0) = BitVec.ofNat 32 (p b).val := by
  pointwise [res_main_call9_v5]
  rw [show V0 (Proc.devRef .tc main_arg4) (ix1 b) = BitVec.ofNat 32 (p b).val from hp b]
  exact wrap _ (by have := (p b).isLt; omega) _

theorem stn_apply (p : Fin 1024 → Fin 100000) (hp : ∀ b, a4 V0 (ix1 b) = BitVec.ofNat 32 (p b).val) (b : Fin 1024) (l : Fin 128) :
    stn V0 (ix2 b l) = a17 V0 (ix2 (p b) l) := by
  unfold stn
  rw [select, broadcastInDim, Host.reduce_andi_one _ _ _ _ _ rfl (fun i => by
    obtain ⟨b', rfl⟩ : ∃ b', i = ix2 b' 0 := ⟨i 0, by rw [eq_ix2 i]; congr 1; exact Subsingleton.elim _ _⟩
    pointwise
    rw [call9_apply V0 p hp b']
    exact in_range _ 99999 (by have := (p b').isLt; omega) (by norm_num))]
  show Host.gather (rowsDims2 100000 128 1024 gather_S100000x128_S1024x1_S1024x128_1_0_n_n_0_1_1128_wf) (a17 V0) (res_main_call9_v5 V0) (ix2 b l) = _
  rw [rows2_apply (by norm_num)]
  congr 1
  congr 1
  refine Fin.ext ?_
  show min (res_main_call9_v5 V0 (ix2 b 0)).toInt.toNat (100000 - 1) = (p b).val
  have := (p b).isLt
  rw [call9_apply V0 p hp, toInt_small _ (by omega)]
  omega

theorem v50_apply (p : Fin 1024 → Fin 100000) (hp : ∀ b, a4 V0 (ix1 b) = BitVec.ofNat 32 (p b).val) (b : Fin 1024) (s : Fin 200) (l : Fin 128) :
    res_main_v50 V0 (ix3 b s l) = zref V0 p b s l := by
  rw [v50_eq, zref, ← v32_apply, ← stn_apply V0 p hp]
  pointwise

end Cert.Proof.V

end
-- ==== Proof.V.RefOut.lean ====
/- The reference's result, read at batch `b`, step `s`, lane `l`: the row of `zref` normalised. -/
module

public import proofs.«01_k».proof.Proof.V.RefVal

@[expose] public section

noncomputable section

namespace Cert.Proof.V

open Cert.ReferenceIdeal Cert.ReferenceIdeal.Gen Cert.ReferenceIdeal.Value
open Idealize.ShloMosaic

variable (V0 : Valuation τ sig (Elt Ideal))

/-- The reference's result as its run leaves it. -/
def refOut : FVec Ideal S1024x200x128 .f32 :=
  addf (mulf (Host.divf (subf (res_main_v50 V0) (broadcastInDim S1024x200x128 ![0, 1, 2] bcast_S1024x200x1_S1024x200x128_0_1_2 (Host.divf (broadcastInDim S1024x200x1 ![0, 1] bcast_S1024x200_S1024x200x1_0_1 (Host.reduceAdd (res_main_v50 V0) (constant S_ .f32 0x00000000#32) reducesTo_S1024x200x128_S1024x200_d2 h_S_)) (broadcastInDim S1024x200x1 ![] bcast_S_S1024x200x1 (constant S_ .f32 0x43000000#32))))) (broadcastInDim S1024x200x128 ![0, 1, 2] bcast_S1024x200x1_S1024x200x128_0_1_2 (Host.sqrt (addf (select (broadcastInDim S1024x200x1 ![] bcast_S_S1024x200x1 (cmpf .ogt (res_main_call10_v8 V0) (constant S_ .f32 0x00000000#32))) (Host.divf (broadcastInDim S1024x200x1 ![0, 1] bcast_S1024x200_S1024x200x1_0_1 (Host.reduceAdd (mulf (res_main_call10_v5 V0) (res_main_call10_v5 V0)) (constant S_ .f32 0x00000000#32) reducesTo_S1024x200x128_S1024x200_d2 h_S_)) (broadcastInDim S1024x200x1 ![] bcast_S_S1024x200x1 (res_main_call10_v8 V0))) (broadcastInDim S1024x200x1 ![] bcast_S_S1024x200x1 (id (constant S_ .f32 0x7FC00000#32)))) (broadcastInDim S1024x200x1 ![] bcast_S_S1024x200x1 (constant S_ .f32 0x3727C5AC#32)))))) (broadcastInDim S1024x200x128 ![0, 1, 2] bcast_S1x1x128_S1024x200x128_0_1_2 (broadcastInDim S1x1x128 ![2] bcast_S128_S1x1x128_2 (a22 V0)))) (broadcastInDim S1024x200x128 ![0, 1, 2] bcast_S1x1x128_S1024x200x128_0_1_2 (broadcastInDim S1x1x128 ![2] bcast_S128_S1x1x128_2 (a23 V0)))

/-- A row normalised as the reference does it: a division by the root. -/
def normR (z : Fin 128 → EReal) (g e : EReal) (l : Fin 128) : EReal :=
  Ideal.div (z l - mean z) (Ideal.sqrt (msd z + Ideal.ofBits .f32 925353388#32)) * g + e

theorem refOut_apply (p : Fin 1024 → Fin 100000) (hp : ∀ b, a4 V0 (ix1 b) = BitVec.ofNat 32 (p b).val) (b : Fin 1024) (s : Fin 200) (l : Fin 128) :
    refOut V0 (ix3 b s l) = normR (zref V0 p b s) (a22 V0 (ix1 l)) (a23 V0 (ix1 l)) l := by
  have hz : ∀ x, (show EReal from res_main_v50 V0 (ix3 b s x)) = zref V0 p b s x := fun x => v50_apply V0 p hp b s x
  unfold normR msd mean
  simp only [← hz]
  pointwise [refOut, res_main_call10_v5, res_main_call10_v8]
  have h0 : Ideal.ofBits .f32 1124073472#32 - (FloatOps.sitofp .f32 0#32 : Ideal .f32) = Ideal.ofBits .f32 1124073472#32 := by
    have e0 : (FloatOps.sitofp .f32 (0#32) : Ideal .f32) = (0 : EReal) := by
      show (((0#32 : BitVec 32).toInt : ℝ) : EReal) = 0
      norm_num
    rw [e0, sub_zero]
  rw [h0, if_pos (by rw [c128]; exact EReal.coe_pos.mpr (by norm_num))]

end Cert.Proof.V

end
-- ==== Proof.V.Rows.lean ====
/- The row before normalisation in the kernel's order and in the reference's, over the launch arguments, and their equality. -/
module

public import proofs.«01_k».proof.Proof.V.Entry
public import proofs.«01_k».proof.Proof.V.Block
public import proofs.«01_k».proof.Proof.V.RefOut

@[expose] public section

noncomputable section

namespace Cert.Proof.V

open Cert.KernelIdeal
open Idealize.ShloMosaic Idealize.SL.Sem

/-- The row in the kernel's order: the four table rows scaled apart, the bias after them. -/
def rowK (A0 : FVec Ideal S1024x200x128 .f32) (A1 : IVec S1024x200x4 32) (A2 : FVec Ideal S1024x16 .f32) (A3 : FVec Ideal S1024x200x8 .f32) (A5 : FVec Ideal S20x4 .f32) (A6 : FVec Ideal S12x4 .f32) (A7 : FVec Ideal S31x4 .f32) (A8 : FVec Ideal S24x4 .f32) (A9 : FVec Ideal S16x128 .f32) (A10 : FVec Ideal S128 .f32) (A11 : FVec Ideal S16x128 .f32) (A12 : FVec Ideal S128 .f32) (A13 : FVec Ideal S8x128 .f32) (A14 : FVec Ideal S128 .f32) (A15 : FVec Ideal S128x128 .f32) (A16 : FVec Ideal S128 .f32) (A17 : FVec Ideal S100000x128 .f32) (A18 : FVec Ideal S_ .f32) (A19 : FVec Ideal S_ .f32) (A20 : FVec Ideal S_ .f32) (A21 : FVec Ideal S_ .f32)
    (q : Fin 100000) (b : Fin 1024) (s : Fin 200) (l : Fin 128) : EReal :=
  A0 (ix3 b s l)
    + (A18 ix0 * (∑ k : Fin 4, A5 (ix2 ⟨clip 19 (A1 (ix3 b s 0)), Nat.lt_succ_of_le (clip_le _ _)⟩ k) * A9 (ix2 ⟨k.val, by omega⟩ l))
      + A18 ix0 * (∑ k : Fin 4, A6 (ix2 ⟨clip 11 (A1 (ix3 b s 1)), Nat.lt_succ_of_le (clip_le _ _)⟩ k) * A9 (ix2 ⟨k.val + 4, by omega⟩ l))
      + A18 ix0 * (∑ k : Fin 4, A7 (ix2 ⟨clip 30 (A1 (ix3 b s 2)), Nat.lt_succ_of_le (clip_le _ _)⟩ k) * A9 (ix2 ⟨k.val + 8, by omega⟩ l))
      + A18 ix0 * (∑ k : Fin 4, A8 (ix2 ⟨clip 23 (A1 (ix3 b s 3)), Nat.lt_succ_of_le (clip_le _ _)⟩ k) * A9 (ix2 ⟨k.val + 12, by omega⟩ l))
      + (A19 ix0 * ((∑ k, A2 (ix2 b k) * A11 (ix2 k l)) + A12 (ix1 l)) + A21 ix0 * A17 (ix2 q l)))
    + A18 ix0 * A10 (ix1 l)
    + A20 ix0 * ((∑ x, max ((∑ y, A3 (ix3 b s y) * A13 (ix2 y x)) + A14 (ix1 x)) 0 * A15 (ix2 x l)) + A16 (ix1 l))

/-- The row in the reference's order: the four table rows and the bias summed, then scaled. -/
def rowR (A0 : FVec Ideal S1024x200x128 .f32) (A1 : IVec S1024x200x4 32) (A2 : FVec Ideal S1024x16 .f32) (A3 : FVec Ideal S1024x200x8 .f32) (A5 : FVec Ideal S20x4 .f32) (A6 : FVec Ideal S12x4 .f32) (A7 : FVec Ideal S31x4 .f32) (A8 : FVec Ideal S24x4 .f32) (A9 : FVec Ideal S16x128 .f32) (A10 : FVec Ideal S128 .f32) (A11 : FVec Ideal S16x128 .f32) (A12 : FVec Ideal S128 .f32) (A13 : FVec Ideal S8x128 .f32) (A14 : FVec Ideal S128 .f32) (A15 : FVec Ideal S128x128 .f32) (A16 : FVec Ideal S128 .f32) (A17 : FVec Ideal S100000x128 .f32) (A18 : FVec Ideal S_ .f32) (A19 : FVec Ideal S_ .f32) (A20 : FVec Ideal S_ .f32) (A21 : FVec Ideal S_ .f32)
    (q : Fin 100000) (b : Fin 1024) (s : Fin 200) (l : Fin 128) : EReal :=
  A0 (ix3 b s l)
    + A18 ix0 * ((∑ k : Fin 4, A5 (ix2 ⟨clip 19 (A1 (ix3 b s 0)), Nat.lt_succ_of_le (clip_le _ _)⟩ k) * A9 (ix2 ⟨k.val, by omega⟩ l))
      + (∑ k : Fin 4, A6 (ix2 ⟨clip 11 (A1 (ix3 b s 1)), Nat.lt_succ_of_le (clip_le _ _)⟩ k) * A9 (ix2 ⟨k.val + 4, by omega⟩ l))
      + (∑ k : Fin 4, A7 (ix2 ⟨clip 30 (A1 (ix3 b s 2)), Nat.lt_succ_of_le (clip_le _ _)⟩ k) * A9 (ix2 ⟨k.val + 8, by omega⟩ l))
      + (∑ k : Fin 4, A8 (ix2 ⟨clip 23 (A1 (ix3 b s 3)), Nat.lt_succ_of_le (clip_le _ _)⟩ k) * A9 (ix2 ⟨k.val + 12, by omega⟩ l)) + A10 (ix1 l))
    + A19 ix0 * ((∑ k, A2 (ix2 b k) * A11 (ix2 k l)) + A12 (ix1 l))
    + A20 ix0 * ((∑ x, max ((∑ y, A3 (ix3 b s y) * A13 (ix2 y x)) + A14 (ix1 x)) 0 * A15 (ix2 x l)) + A16 (ix1 l))
    + A21 ix0 * A17 (ix2 q l)

/-- Nine numbers added in the kernel's order and in the reference's. -/
theorem shuffle (z y m d h s st tb g : EReal) : z + (y + m + d + h + (s + st)) + tb + g = z + (y + m + d + h + tb) + s + g + st := by
  ac_rfl

theorem zref_row (V : Valuation Cert.ReferenceIdeal.τ Cert.ReferenceIdeal.sig (Elt Ideal)) (p : Fin 1024 → Fin 100000) (b : Fin 1024) (s : Fin 200) (l : Fin 128) :
    zref V p b s l = rowR (a0 V) (a1 V) (a2 V) (a3 V) (a5 V) (a6 V) (a7 V) (a8 V) (a9 V) (a10 V) (a11 V) (a12 V) (a13 V) (a14 V) (a15 V) (a16 V) (a17 V) (a18 V) (a19 V) (a20 V) (a21 V) (p b) b s l := rfl

variable (m : (ℓ : Loc nD τ sig) → Buf (Elt Ideal) ℓ) (d : Dev nD)

theorem zblk_row (x0 : FVec Ideal S3200x128 .f32) (x1 : IVec S3200x4 32) (x2 : FVec Ideal S3200x8 .f32) (x3 : FVec Ideal S16x16 .f32) (x4 : FVec Ideal S16x128 .f32)
    (x5 : FVec Ideal S88x16 .f32) (x6 : FVec Ideal S16x128 .f32) (x7 : FVec Ideal S1x128 .f32) (x8 : FVec Ideal S16x128 .f32) (x9 : FVec Ideal S1x128 .f32)
    (x10 : FVec Ideal S8x128 .f32) (x11 : FVec Ideal S1x128 .f32) (x12 : FVec Ideal S128x128 .f32) (x13 : FVec Ideal S1x128 .f32)
    (x16 : FVec Ideal S4 .f32) (r : Fin 3200) (l : Fin 128) (q : Fin 100000) (b : Fin 1024) (s : Fin 200)
    (h0 : x0 (ix2 r l) = k0 m d (ix3 b s l)) (h1 : ∀ c, x1 (ix2 r c) = k1 m d (ix3 b s c)) (h2 : ∀ c, x2 (ix2 r c) = k3 m d (ix3 b s c))
    (h3 : ∀ k, x3 (ix2 ⟨r.val / 200, by omega⟩ k) = k2 m d (ix2 b k)) (h4 : x4 (ix2 ⟨r.val / 200, by omega⟩ l) = k17 m d (ix2 q l))
    (h5 : x5 = table m d) (h6 : x6 = k9 m d) (h7 : x7 (ix2 0 l) = k10 m d (ix1 l)) (h8 : x8 = k11 m d) (h9 : x9 (ix2 0 l) = k12 m d (ix1 l))
    (h10 : x10 = k13 m d) (h11 : ∀ x, x11 (ix2 0 x) = k14 m d (ix1 x)) (h12 : x12 = k15 m d) (h13 : x13 (ix2 0 l) = k16 m d (ix1 l))
    (g0 : x16 (ix1 0) = k18 m d ix0) (g1 : x16 (ix1 1) = k19 m d ix0) (g2 : x16 (ix1 2) = k20 m d ix0) (g3 : x16 (ix1 3) = k21 m d ix0) :
    zblk x0 x1 x2 x3 x4 x5 x6 x7 x8 x9 x10 x11 x12 x13 x16 r l = rowK (k0 m d) (k1 m d) (k2 m d) (k3 m d) (k5 m d) (k6 m d) (k7 m d) (k8 m d) (k9 m d) (k10 m d) (k11 m d) (k12 m d) (k13 m d) (k14 m d) (k15 m d) (k16 m d) (k17 m d) (k18 m d) (k19 m d) (k20 m d) (k21 m d) q b s l := by
  subst h5 h6 h8 h10 h12
  unfold zblk rowK
  rw [g0, g1, g2, g3, h0, h4, h7, h9, h13]
  simp only [h1, h2, h3, h11]
  rw [year_sum m d _ _ (Nat.lt_succ_of_le (clip_le _ _)), month_sum m d _ _ (Nat.lt_succ_of_le (clip_le _ _)),
    day_sum m d _ _ (Nat.lt_succ_of_le (clip_le _ _)), hour_sum m d _ _ (Nat.lt_succ_of_le (clip_le _ _))]

end Cert.Proof.V

end
-- ==== Proof.V.Infinite.lean ====
/- Rows with an infinite number: both programs normalise such a row to the shift alone, so the kernel's order of adding and
   the reference's need to agree only where the row is finite. -/
module

public import proofs.«01_k».proof.Proof.V.Rows

@[expose] public section

noncomputable section

namespace Cert.Proof.V

open Cert.KernelIdeal
open Idealize.ShloMosaic

/-- A number that is infinite. -/
def Unreal (x : EReal) : Prop := x = ⊤ ∨ x = ⊥

theorem real_or (x : EReal) : (∃ r : ℝ, x = r) ∨ Unreal x := by
  induction x with
  | bot => exact .inr (.inr rfl)
  | top => exact .inr (.inl rfl)
  | coe r => exact .inl ⟨r, rfl⟩

theorem Unreal.add_right {x : EReal} (h : Unreal x) (y : EReal) : Unreal (x + y) := by
  rcases h with rfl | rfl
  · induction y with
    | bot => exact .inr rfl
    | top => exact .inl rfl
    | coe r => exact .inl (EReal.top_add_coe r)
  · exact .inr (EReal.bot_add y)

theorem Unreal.add_left {y : EReal} (h : Unreal y) (x : EReal) : Unreal (x + y) := by
  rw [add_comm]
  exact h.add_right x

theorem Unreal.scale {a : ℝ} (ha : a ≠ 0) {x : EReal} (h : Unreal x) : Unreal ((a : EReal) * x) := by
  rcases h with rfl | rfl <;> rcases lt_or_gt_of_ne ha with h | h
  · exact .inr (EReal.coe_mul_top_of_neg h)
  · exact .inl (EReal.coe_mul_top_of_pos h)
  · exact .inl (EReal.coe_mul_bot_of_neg h)
  · exact .inr (EReal.coe_mul_bot_of_pos h)

theorem Unreal.neg {x : EReal} (h : Unreal x) : Unreal (-x) := by
  rcases h with rfl | rfl
  · exact .inr EReal.neg_top
  · exact .inl EReal.neg_bot

theorem Unreal.square {x : EReal} (h : Unreal x) : x * x = ⊤ := by
  rcases h with rfl | rfl
  · exact EReal.top_mul_top
  · exact EReal.bot_mul_bot

theorem Unreal.div128 {x : EReal} (h : Unreal x) : Unreal (Ideal.div x (Ideal.ofBits .f32 1124073472#32)) := by
  have e (y : EReal) : Ideal.div y ((128 : ℝ) : EReal) = (((128 : ℝ)⁻¹ : ℝ) : EReal) * y := by
    rw [Ideal.div, if_neg (by exact_mod_cast (by norm_num : (128 : ℝ) ≠ 0)), ← EReal.coe_inv, mul_comm]
  rw [c128, e]
  exact h.scale (by norm_num)

theorem unreal_sum (z : Fin 128 → EReal) (l : Fin 128) (h : Unreal (z l)) : Unreal (∑ x, z x) := by
  rw [← Finset.add_sum_erase _ _ (Finset.mem_univ l)]
  exact h.add_right _

/-- A row with an infinite number normalises to the shift. -/
theorem norm_unreal (z : Fin 128 → EReal) (g e : EReal) (l : Fin 128) (j : Fin 128) (h : Unreal (z j)) : normK z g e l = e := by
  have hm : Unreal (mean z) := (unreal_sum z j h).div128
  have hz (x : Fin 128) : Unreal (z x - mean z) := by
    rw [sub_eq_add_neg]
    exact hm.neg.add_left _
  have hs : (∑ x, (z x - mean z) * (z x - mean z)) = ⊤ := by
    rw [← Finset.add_sum_erase _ _ (Finset.mem_univ j), (hz j).square]
    refine EReal.top_add_of_ne_bot (ne_of_gt (lt_of_lt_of_le EReal.bot_lt_zero (Finset.sum_nonneg fun x _ => ?_)))
    rw [(hz x).square]
    exact le_top
  have hv : msd z + Ideal.ofBits .f32 925353388#32 = ⊤ := by
    have hd : Unreal (msd z + Ideal.ofBits .f32 925353388#32) := by
      refine Unreal.add_right ?_ _
      unfold msd
      rw [hs]
      exact Unreal.div128 (.inl rfl)
    rcases hd with hd | hd
    · exact hd
    · exact absurd (hd ▸ msd_pos z) (by simp)
  unfold normK
  rw [hv, show Ideal.rsqrt ⊤ = 0 from rfl, mul_zero, zero_mul, zero_add]

/-- The two orders of adding give the same number, or both an infinite one, when the multiplier is real. -/
theorem order (a : ℝ) (z p q r s t u v g : EReal) :
    z + (a * p + a * q + a * r + a * s + (u + v)) + a * t + g = z + a * (p + q + r + s + t) + u + g + v
      ∨ (Unreal (z + (a * p + a * q + a * r + a * s + (u + v)) + a * t + g) ∧ Unreal (z + a * (p + q + r + s + t) + u + g + v)) := by
  by_cases ha : a = 0
  · subst ha
    left
    simp only [EReal.coe_zero, zero_mul, add_zero, zero_add]
    ac_rfl
  rcases real_or p with hp | hp
  · rcases real_or q with hq | hq
    · rcases real_or r with hr | hr
      · rcases real_or s with hs | hs
        · left
          rw [spread _ _ _ _ _ _ ⟨a, rfl⟩ hp hq hr hs]
          exact shuffle _ _ _ _ _ _ _ _ _
        · exact .inr ⟨(((((hs.scale ha).add_left _).add_right _).add_left _).add_right _).add_right _,
            ((((((hs.add_left _).add_right _).scale ha).add_left _).add_right _).add_right _).add_right _⟩
      · exact .inr ⟨((((((hr.scale ha).add_left _).add_right _).add_right _).add_left _).add_right _).add_right _,
          (((((((hr.add_left _).add_right _).add_right _).scale ha).add_left _).add_right _).add_right _).add_right _⟩
    · exact .inr ⟨(((((((hq.scale ha).add_left _).add_right _).add_right _).add_right _).add_left _).add_right _).add_right _,
        ((((((((hq.add_left _).add_right _).add_right _).add_right _).scale ha).add_left _).add_right _).add_right _).add_right _⟩
  · exact .inr ⟨(((((((hp.scale ha).add_right _).add_right _).add_right _).add_right _).add_left _).add_right _).add_right _,
      ((((((((hp.add_right _).add_right _).add_right _).add_right _).scale ha).add_left _).add_right _).add_right _).add_right _⟩

/-- The kernel's row and the reference's agree or are both infinite, at a lane, when the time multiplier is real. -/
theorem row_alike (A0 : FVec Ideal S1024x200x128 .f32) (A1 : IVec S1024x200x4 32) (A2 : FVec Ideal S1024x16 .f32) (A3 : FVec Ideal S1024x200x8 .f32) (A5 : FVec Ideal S20x4 .f32) (A6 : FVec Ideal S12x4 .f32) (A7 : FVec Ideal S31x4 .f32) (A8 : FVec Ideal S24x4 .f32) (A9 : FVec Ideal S16x128 .f32) (A10 : FVec Ideal S128 .f32) (A11 : FVec Ideal S16x128 .f32) (A12 : FVec Ideal S128 .f32) (A13 : FVec Ideal S8x128 .f32) (A14 : FVec Ideal S128 .f32) (A15 : FVec Ideal S128x128 .f32) (A16 : FVec Ideal S128 .f32) (A17 : FVec Ideal S100000x128 .f32) (A18 : FVec Ideal S_ .f32) (A19 : FVec Ideal S_ .f32) (A20 : FVec Ideal S_ .f32) (A21 : FVec Ideal S_ .f32)
    (q : Fin 100000) (b : Fin 1024) (s : Fin 200) (l : Fin 128) (h18 : ∃ r : ℝ, A18 ix0 = r) :
    rowK A0 A1 A2 A3 A5 A6 A7 A8 A9 A10 A11 A12 A13 A14 A15 A16 A17 A18 A19 A20 A21 q b s l = rowR A0 A1 A2 A3 A5 A6 A7 A8 A9 A10 A11 A12 A13 A14 A15 A16 A17 A18 A19 A20 A21 q b s l
      ∨ (Unreal (rowK A0 A1 A2 A3 A5 A6 A7 A8 A9 A10 A11 A12 A13 A14 A15 A16 A17 A18 A19 A20 A21 q b s l)
        ∧ Unreal (rowR A0 A1 A2 A3 A5 A6 A7 A8 A9 A10 A11 A12 A13 A14 A15 A16 A17 A18 A19 A20 A21 q b s l)) := by
  obtain ⟨a, ha⟩ := h18
  unfold rowK rowR
  rw [ha]
  exact order a _ _ _ _ _ _ _ _ _

/-- Rows that agree, or are both infinite, at every lane normalise alike. -/
theorem norm_congr (y z : Fin 128 → EReal) (h : ∀ x, y x = z x ∨ (Unreal (y x) ∧ Unreal (z x))) (g e : EReal) (l : Fin 128) : normK y g e l = normK z g e l := by
  by_cases hj : ∃ j, Unreal (y j) ∧ Unreal (z j)
  · obtain ⟨j, hy, hz⟩ := hj
    rw [norm_unreal y g e l j hy, norm_unreal z g e l j hz]
  · rw [show y = z from funext fun x => (h x).resolve_right fun k => hj ⟨x, k⟩]

end Cert.Proof.V

end
-- ==== Proof.V.Pre.lean ====
/- What the finite precondition says of the launch memory: ids inside the table, the time multiplier real. -/
module

public import proofs.«01_k».proof.Proof.V.PreFacts
public import proofs.«01_k».proof.Proof.V.Arrays

@[expose] public section

noncomputable section

namespace Cert.Proof.V

open Cert.KernelIdeal Cert.KernelIdeal.Gen
open Idealize.ShloMosaic Idealize.SL.Sem

instance : Subsingleton Cert.Pre_ids_in_table_alpha_time_finite.S_.Idx := ⟨fun a b => funext fun k => k.elim0⟩

/-- A number whose absolute value is below infinity is real. -/
theorem real_of_lt (x : EReal) (h : Ideal.cmp .olt (max x (-x)) (Ideal.ofBits .f32 0x7F800000#32) = 1#1) : ∃ r : ℝ, x = r := by
  rw [inf_top] at h
  have h' : max x (-x) < ⊤ := by
    by_contra q
    have e : Ideal.cmp .olt (max x (-x)) ⊤ = 0#1 := by
      show BitVec.ofBool (decide (max x (-x) < ⊤)) = _
      rw [decide_eq_false q]
      rfl
    rw [e] at h
    exact absurd h (by decide)
  induction x with
  | bot => simp at h'
  | top => simp at h'
  | coe r => exact ⟨r, rfl⟩

/-- Two bits whose meet is one are both one. -/
theorem both {a b : BitVec 1} (h : IntOp.andi a b = 1#1) : a = 1#1 ∧ b = 1#1 := by
  revert a b; decide

/-- What the precondition gives. -/
structure Good (m : (ℓ : Loc nD τ sig) → Buf (Elt Ideal) ℓ) (d : Dev nD) : Prop where
  ids : ∀ b : Fin 1024, (k4 m d (ix1 b)).toNat < 100000
  alpha : ∃ r : ℝ, k18 m d ix0 = r

theorem fin_of_pre (m : (ℓ : Loc nD τ sig) → Buf (Elt Ideal) ℓ) (h : Cert.Pre_KernelIdeal_ids_in_table_alpha_time_finite m) (d : Dev nD) : Good m d := by
  have e := congrFun (h d) ix0
  unfold Cert.Pre_ids_in_table_alpha_time_finite.fn at e
  obtain ⟨e4, e18⟩ := both e
  exact ⟨fun b => PI.id_lt _ (Host.reduce_andi_all _ _ _ _ _ e4 (ix1 b)), real_of_lt _ (Host.reduce_andi_all _ _ _ _ _ e18 ix0)⟩

/-- The gather's condition, from the finite precondition. -/
theorem ok_of_fin (m : (ℓ : Loc nD τ sig) → Buf (Elt Ideal) ℓ) (h : Cert.Pre_KernelIdeal_ids_in_table_alpha_time_finite m) : PI.PreOK (F := Ideal) m := by
  intro d j
  have e := (fin_of_pre m h d).ids (j 0)
  rw [eq_ix1 j]
  exact e

end Cert.Proof.V

end
-- ==== Proof.V.Out.lean ====
/- The kernel's whole array of results, at coordinates, and its equality with the reference's. -/
module

public import proofs.«01_k».proof.Proof.V.Blocks
public import proofs.«01_k».proof.Proof.V.Infinite
public import proofs.«01_k».proof.Proof.V.Pre

@[expose] public section

noncomputable section

namespace Cert.Proof.V

open Cert.KernelIdeal Cert.KernelIdeal.Gen
open Idealize.ShloMosaic Idealize.SL.Sem
open Cert.Proof.PI (V0 V1 V3 V3_res gath iblk oblk dats V1_arg2 V1_arg9 V1_arg11 V1_arg13 V1_arg15)

variable (m : (ℓ : Loc nD τ sig) → Buf (Elt Ideal) ℓ) (d : Dev nD) (t : Fin cfg1.N)

/-- The table row a batch's id names. -/
def pos (b : Fin 1024) : Fin 100000 := ⟨(k4 m d (ix1 b)).toNat % 100000, Nat.mod_lt _ (by decide)⟩

/-- The kernel's result at a batch, step and lane. -/
def kout (b : Fin 1024) (s : Fin 200) (l : Fin 128) : EReal :=
  normK (rowK (k0 m d) (k1 m d) (k2 m d) (k3 m d) (k5 m d) (k6 m d) (k7 m d) (k8 m d) (k9 m d) (k10 m d) (k11 m d) (k12 m d) (k13 m d) (k14 m d) (k15 m d) (k16 m d) (k17 m d) (k18 m d) (k19 m d) (k20 m d) (k21 m d) (pos m d b) b s) (k22 m d (ix1 l)) (k23 m d (ix1 l)) l

/-- The block of results of a grid point, at a row and lane. -/
theorem oblk_at (r : Fin 3200) (l : Fin 128) (R : Fin 204800) (hR : R.val = t.val * 3200 + r.val) :
    oblk m d t (ix2 r l) = kout m d ⟨R.val / 200, by omega⟩ ⟨R.val % 200, Nat.mod_lt _ (by decide)⟩ l := by
  have hb : t.val * 16 + r.val / 200 = R.val / 200 := by omega
  have eR : (⟨t.val * 3200 + r.val, by omega⟩ : Fin 204800) = R := Fin.ext hR.symm
  unfold oblk kout
  rw [outv_apply]
  have hz : zblk (iblk m d 0 t) (iblk m d 1 t) (iblk m d 2 t) (iblk m d 3 t) (iblk m d 4 t) (iblk m d 5 t) (iblk m d 6 t) (iblk m d 7 t) (iblk m d 8 t) (iblk m d 9 t)
      (iblk m d 10 t) (iblk m d 11 t) (iblk m d 12 t) (iblk m d 13 t) (iblk m d 16 t) r
      = rowK (k0 m d) (k1 m d) (k2 m d) (k3 m d) (k5 m d) (k6 m d) (k7 m d) (k8 m d) (k9 m d) (k10 m d) (k11 m d) (k12 m d) (k13 m d) (k14 m d) (k15 m d) (k16 m d) (k17 m d) (k18 m d) (k19 m d) (k20 m d) (k21 m d) (pos m d ⟨R.val / 200, by omega⟩) ⟨R.val / 200, by omega⟩ ⟨R.val % 200, Nat.mod_lt _ (by decide)⟩ := by
    funext x
    have h16 := (blk16 m d t).trans (V1_v25 m d)
    refine zblk_row m d _ _ _ _ _ _ _ _ _ _ _ _ _ _ _ r x _ _ _ ?_ ?_ ?_ ?_ ?_ (blk5 m d t) ((blk6 m d t).trans (V1_arg9 m d)) ?_ ((blk8 m d t).trans (V1_arg11 m d)) ?_
      ((blk10 m d t).trans (V1_arg13 m d)) ?_ ((blk12 m d t).trans (V1_arg15 m d)) ?_ ?_ ?_ ?_ ?_
    · exact (blk0 m d t r x).trans ((congrArg (fun q => (V1 m d (Proc.devRef .tc main_v18) : FVec Ideal S204800x128 .f32) (ix2 q x)) eR).trans (base_at m d R x))
    · intro c
      exact (blk1 m d t r c).trans ((congrArg (fun q => (V1 m d (Proc.devRef .tc main_v19) : IVec S204800x4 32) (ix2 q c)) eR).trans (raw_at m d R c))
    · intro c
      exact (blk2 m d t r c).trans ((congrArg (fun q => (V1 m d (Proc.devRef .tc main_v20) : FVec Ideal S204800x8 .f32) (ix2 q c)) eR).trans (gap_at m d R c))
    · intro k
      refine (blk3 m d t _ k).trans ((congrFun (V1_arg2 m d) _).trans ?_)
      exact congrArg (fun q => k2 m d (ix2 q k)) (Fin.ext hb)
    · refine (blk4 m d t _ x).trans ((congrFun (V1_v0 m d) _).trans ?_)
      exact congrArg (fun q => k17 m d (ix2 (pos m d q) x)) (Fin.ext hb)
    · exact (congrFun (blk7 m d t) _).trans (bias_at m d x)
    · exact (congrFun (blk9 m d t) _).trans (sbias_at m d x)
    · intro y
      exact (congrFun (blk11 m d t) _).trans (gbias_at m d y)
    · exact (congrFun (blk13 m d t) _).trans (hbias_at m d x)
    · exact (congrFun h16 _).trans (quad_0 _ _ _ _)
    · exact (congrFun h16 _).trans (quad_1 _ _ _ _)
    · exact (congrFun h16 _).trans (quad_2 _ _ _ _)
    · exact (congrFun h16 _).trans (quad_3 _ _ _ _)
  have hg : (iblk m d 14 t : FVec Ideal S1x128 .f32) (ix2 0 l) = k22 m d (ix1 l) := (congrFun (blk14 m d t) _).trans (gain_at m d l)
  have he : (iblk m d 15 t : FVec Ideal S1x128 .f32) (ix2 0 l) = k23 m d (ix1 l) := (congrFun (blk15 m d t) _).trans (shift_at m d l)
  rw [hz, hg, he]

/-- The results, flat. -/
def flat : FVec Ideal S204800x128 .f32 := fun i => kout m d ⟨(i 0).val / 200, by have : (i 0).val < 204800 := (i 0).isLt; omega⟩ ⟨(i 0).val % 200, Nat.mod_lt _ (by decide)⟩ (i 1)

theorem arr_eq : (dats m 0 d).arrAt 17 cfg1.N = flat m d := by
  refine (dats m 0 d).arrAt_eq_of_covers 17 _ (by decide +kernel) fun t hf y => ?_
  obtain ⟨r, l, rfl⟩ : ∃ (r : Fin 3200) (l : Fin 128), y = ix2 r l := ⟨y 0, y 1, eq_ix2 y⟩
  refine (oblk_at m d t r l ⟨t.val * 3200 + r.val, by have : t.val < 64 := t.isLt; omega⟩ rfl).trans ?_
  refine congrArg (flat m d) (a₁ := ix2 ⟨t.val * 3200 + r.val, by have : t.val < 64 := t.isLt; omega⟩ l) ?_
  blk_ext [at17 t]

/-- The kernel's result array, at coordinates. -/
theorem res_at (b : Fin 1024) (s : Fin 200) (l : Fin 128) :
    (V3 m d (Proc.devRef .tc main_v33) : FVec Ideal S1024x200x128 .f32) (ix3 b s l) = kout m d b s l := by
  rw [V3_res, arr_eq]
  have h : (shapeCast S1024x200x128 (flat m d) shapeCasts_S204800x128_S1024x200x128) (ix3 b s l) = flat m d (ix2 ⟨b.val * 200 + s.val, by omega⟩ l) := by
    pointwise
  refine h.trans ?_
  unfold flat
  exact congrArg₂ (fun p q => kout m d p q l) (Fin.ext (by show (b.val * 200 + s.val) / 200 = b.val; omega)) (Fin.ext (by show (b.val * 200 + s.val) % 200 = s.val; omega))

/-- A row normalised by the product with the inverse root and by the quotient is the same row. -/
theorem norm_eq (z : Fin 128 → EReal) (g e : EReal) (l : Fin 128) : normK z g e l = normR z g e l := by
  unfold normK normR
  rw [mul_rsqrt _ _ (msd_pos z)]

/-- The kernel's result array is the reference's, on memories that agree in the arguments. -/
theorem out_eq (h : Good m d) (V : Valuation Cert.ReferenceIdeal.τ Cert.ReferenceIdeal.sig (Elt Ideal))
    (h0 : a0 V = k0 m d)
    (h1 : a1 V = k1 m d)
    (h2 : a2 V = k2 m d)
    (h3 : a3 V = k3 m d)
    (h4 : a4 V = k4 m d)
    (h5 : a5 V = k5 m d)
    (h6 : a6 V = k6 m d)
    (h7 : a7 V = k7 m d)
    (h8 : a8 V = k8 m d)
    (h9 : a9 V = k9 m d)
    (h10 : a10 V = k10 m d)
    (h11 : a11 V = k11 m d)
    (h12 : a12 V = k12 m d)
    (h13 : a13 V = k13 m d)
    (h14 : a14 V = k14 m d)
    (h15 : a15 V = k15 m d)
    (h16 : a16 V = k16 m d)
    (h17 : a17 V = k17 m d)
    (h18 : a18 V = k18 m d)
    (h19 : a19 V = k19 m d)
    (h20 : a20 V = k20 m d)
    (h21 : a21 V = k21 m d)
    (h22 : a22 V = k22 m d)
    (h23 : a23 V = k23 m d)
    : (V3 m d (Proc.devRef .tc main_v33) : FVec Ideal S1024x200x128 .f32) = refOut V := by
  funext i
  obtain ⟨b, s, l, rfl⟩ : ∃ (b : Fin 1024) (s : Fin 200) (l : Fin 128), i = ix3 b s l := ⟨i 0, i 1, i 2, eq_ix3 i⟩
  have hp : ∀ b, a4 V (ix1 b) = BitVec.ofNat 32 (pos m d b).val := fun b => by
    rw [h4]
    refine BitVec.eq_of_toNat_eq ?_
    have := h.ids b
    rw [BitVec.toNat_ofNat]
    show _ = (k4 m d (ix1 b)).toNat % 100000 % 2 ^ 32
    omega
  rw [res_at, refOut_apply V (pos m d) hp b s l, kout, ← norm_eq, h22, h23]
  refine norm_congr _ _ (fun x => ?_) _ _ l
  rw [zref_row, h0, h1, h2, h3, h5, h6, h7, h8, h9, h10, h11, h12, h13, h14, h15, h16, h17, h18, h19, h20, h21]
  exact row_alike _ _ _ _ _ _ _ _ _ _ _ _ _ _ _ _ _ _ _ _ _ (pos m d b) b s x h.alpha

end Cert.Proof.V

end
-- ==== Proof.V.Algebraic.lean ====
/- The value claim: the kernel and the reference end with equal results. -/
module

public import proofs.«01_k».proof.Proof.V.Out
public import proofs.«01_k».proof.Proof.Ref

@[expose] public section

noncomputable section

namespace Cert.Proof.V

open Idealize.ShloMosaic Idealize.SL.Sem

/-- The kernel's frame under the finite precondition. -/
theorem frame_fin : Cert.quiescent_KernelIdeal_pre_ids_in_table_alpha_time_finite := fun m ρ hpre =>
  (θ_run Cert.KernelIdeal.defs _ _).mono (fun _ h => ⟨fun c => (h.1 c).2, h.2⟩) (PI.run_args (F := Ideal) m ρ (ok_of_fin m hpre))

/-- The reference's frame under the finite precondition. -/
theorem ref_frame_fin : Cert.quiescent_ReferenceIdeal_pre_ids_in_table_alpha_time_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On memories that agree in the arguments the kernel's results are the reference's. -/
theorem algebraic : Cert.algebraic_KernelIdeal_ReferenceIdeal_pre_ids_in_table_alpha_time_finite := by
  intro m g m' g' hpre hargs
  refine ⟨fun c => PI.V3 m c (Proc.devRef .tc Cert.KernelIdeal.main_v33),
    (θ_run Cert.KernelIdeal.defs _ _).mono (fun _ h => h.1) (PI.run_args (F := Ideal) m g (ok_of_fin m hpre)), ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6, e7, e8, e9, e10, e11, e12, e13, e14, e15, e16, e17, e18, e19, e20, e21, e22, e23⟩ := hargs c
  exact (out_eq m c (fin_of_pre m hpre c) (StableHlo.launchContents m' c) e0 e1 e2 e3 e4 e5 e6 e7 e8 e9 e10 e11 e12 e13 e14 e15 e16 e17 e18 e19 e20 e21 e22 e23).symm

end Cert.Proof.V

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ids_in_table
public import proofs.«01_k».proof.Proof.P.Frame
public import proofs.«01_k».proof.Proof.PI.Frame
public import proofs.«01_k».proof.Proof.Ref
public import proofs.«01_k».proof.Proof.V.PreFacts
public import proofs.«01_k».proof.Proof.V.Algebraic

@[expose] public section

noncomputable section

namespace Cert.Proof

theorem claim : Cert.Claim :=
  ⟨Cert.Kernel.Gen.facts, Cert.KernelIdeal.Gen.facts, Cert.ReferenceIdeal.Gen.facts, Cert.Pre_ids_in_table.Gen.facts, Cert.Proof.V.preFacts,
    Cert.Proof.P.frame, Cert.Proof.PI.frame, Cert.Proof.V.frame_fin, Cert.Proof.Ref.frame, Cert.Proof.V.ref_frame_fin, trivial, Cert.Proof.V.algebraic⟩

end Cert.Proof

end
